-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_weights : Cert.Pre_finite_weights.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ preserves_Kernel_KernelIdeal
    ∧ algebraic_KernelIdeal_ReferenceIdeal_pre_finite_weights (hKernelIdeal := hKernelIdeal) (hReferenceIdeal := hReferenceIdeal) (hPre_finite_weights := hPre_finite_weights)
-- ==== Pre_finite_weights.lean ====
abbrev S4x256x64x2048 : Shape := ⟨4, ![4, 256, 64, 2048]⟩
abbrev S256 : Shape := ⟨1, ![256]⟩
abbrev S_ : Shape := ⟨0, ![]⟩

class Facts : Prop where
  bcast_S_S256 : S_.BroadcastsInDim S256 (![] : Fin 0 → Fin S256.rank)

variable [Facts]

def fn {F : FTy → Type} [FloatOps F] (main_arg0 : FVec F S4x256x64x2048 .f32) (main_arg1 : FVec F S256 .f32) (main_arg2 : FVec F S256 .f32) : IVec S256 1 :=
  let main_v0 : FVec F S256 .f32 := Host.absf main_arg1
  let main_cst : FVec F S_ .f32 := constant S_ .f32 0x7F800000#32
  let main_v1 : FVec F S256 .f32 := broadcastInDim S256 ![] bcast_S_S256 main_cst
  let main_v2 : IVec S256 1 := cmpf .olt main_v0 main_v1
  let main_v3 : FVec F S256 .f32 := Host.absf main_arg2
  let main_cst_0 : FVec F S_ .f32 := constant S_ .f32 0x7F800000#32
  let main_v4 : FVec F S256 .f32 := broadcastInDim S256 ![] bcast_S_S256 main_cst_0
  let main_v5 : IVec S256 1 := cmpf .olt main_v3 main_v4
  let main_v6 : IVec S256 1 := andi main_v2 main_v5
  main_v6
-- ==== Kernel.lean ====
abbrev S4x256x64x2048 : Shape := ⟨4, ![4, 256, 64, 2048]⟩
abbrev S256 : Shape := ⟨1, ![256]⟩
abbrev S256x1x1 : Shape := ⟨3, ![256, 1, 1]⟩
abbrev S1x256 : Shape := ⟨2, ![1, 256]⟩
abbrev S4x64x256 : Shape := ⟨3, ![4, 64, 256]⟩
abbrev S3x256x8x2048 : Shape := ⟨4, ![3, 256, 8, 2048]⟩
abbrev S3x4 : Shape := ⟨2, ![3, 4]⟩
abbrev S1x1 : Shape := ⟨2, ![1, 1]⟩
abbrev S_ : Shape := ⟨0, ![]⟩
abbrev S1x64x8x2048 : Shape := ⟨4, ![1, 64, 8, 2048]⟩
abbrev S64x8x2048 : Shape := ⟨3, ![64, 8, 2048]⟩
abbrev S1x256x8x2048 : Shape := ⟨4, ![1, 256, 8, 2048]⟩
abbrev S256x8x2048 : Shape := ⟨3, ![256, 8, 2048]⟩
abbrev S8x2048 : Shape := ⟨2, ![8, 2048]⟩
abbrev S8 : Shape := ⟨1, ![8]⟩
abbrev S8x1 : Shape := ⟨2, ![8, 1]⟩
abbrev S1x8x2048 : Shape := ⟨3, ![1, 8, 2048]⟩
abbrev S256x8 : Shape := ⟨2, ![256, 8]⟩
abbrev S8x256 : Shape := ⟨2, ![8, 256]⟩
abbrev S1x8x256 : Shape := ⟨3, ![1, 8, 256]⟩

abbrev nBuf : Space → Nat
  | .hbm => 7
  | .vmem => 4
  | .smem => 0
  | _ => 0

abbrev bufTy : (tb : Table) → Fin (tcTables nBuf tb) → BufTy
  | .hbm, ⟨0, _⟩ => ⟨S4x256x64x2048, .f32⟩
  | .hbm, ⟨1, _⟩ => ⟨S256, .f32⟩
  | .hbm, ⟨2, _⟩ => ⟨S256, .f32⟩
  | .hbm, ⟨3, _⟩ => ⟨S256, .f32⟩
  | .hbm, ⟨4, _⟩ => ⟨S256x1x1, .f32⟩
  | .hbm, ⟨5, _⟩ => ⟨S1x256, .f32⟩
  | .hbm, ⟨6, _⟩ => ⟨S4x64x256, .f32⟩
  | .local _ .vmem, ⟨0, _⟩ => ⟨S256x1x1, .f32⟩
  | .local _ .vmem, ⟨1, _⟩ => ⟨S1x256, .f32⟩
  | .local _ .vmem, ⟨2, _⟩ => ⟨S4x64x256, .f32⟩
  | .local _ .vmem, ⟨3, _⟩ => ⟨S3x256x8x2048, .f32⟩
  | _, _ => ⟨S4x256x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

def k0_off1 (c0_i32 : BitVec 32) : Fin 4 → Nat :=
  let c0_i32_5 : BitVec 32 := 0#32
  let c0_i32_12 : BitVec 32 := 0#32
  let c8_i32 : BitVec 32 := 8#32
  let v4 : BitVec 32 := Scalar.remsi c0_i32 c8_i32
  let c8_i32_4 : BitVec 32 := 8#32
  let v5 : BitVec 32 := Scalar.muli v4 c8_i32_4
  let c0_i32_13 : BitVec 32 := 0#32
  ![0, 0, v5.toNat, 0]
def k0_off2 (c0_i32 : BitVec 32) : Fin 4 → Nat :=
  let c0_i32_14 : BitVec 32 := 0#32
  let c64_i32_19 : BitVec 32 := 64#32
  let c8_i32 : BitVec 32 := 8#32
  let v4 : BitVec 32 := Scalar.remsi c0_i32 c8_i32
  let c8_i32_4 : BitVec 32 := 8#32
  let v5 : BitVec 32 := Scalar.muli v4 c8_i32_4
  let c0_i32_20 : BitVec 32 := 0#32
  ![0, 64, v5.toNat, 0]
def k0_off3 (c0_i32 : BitVec 32) : Fin 4 → Nat :=
  let c0_i32_21 : BitVec 32 := 0#32
  let c128_i32_26 : BitVec 32 := 128#32
  let c8_i32 : BitVec 32 := 8#32
  let v4 : BitVec 32 := Scalar.remsi c0_i32 c8_i32
  let c8_i32_4 : BitVec 32 := 8#32
  let v5 : BitVec 32 := Scalar.muli v4 c8_i32_4
  let c0_i32_27 : BitVec 32 := 0#32
  ![0, 128, v5.toNat, 0]
def k0_off4 (c0_i32 : BitVec 32) : Fin 4 → Nat :=
  let c0_i32_28 : BitVec 32 := 0#32
  let c192_i32_33 : BitVec 32 := 192#32
  let c8_i32 : BitVec 32 := 8#32
  let v4 : BitVec 32 := Scalar.remsi c0_i32 c8_i32
  let c8_i32_4 : BitVec 32 := 8#32
  let v5 : BitVec 32 := Scalar.muli v4 c8_i32_4
  let c0_i32_34 : BitVec 32 := 0#32
  ![0, 192, v5.toNat, 0]
@[reducible] def k0_t1_loop : Scf.Loop 32 :=
  let c0_i32_74 : BitVec 32 := 0#32
  let c32_i32 : BitVec 32 := 32#32
  let v56 : BitVec 32 := Scalar.addi c0_i32_74 c32_i32
  let c1_i32_75 : BitVec 32 := 1#32
  ⟨c0_i32_74, v56, c1_i32_75⟩
def k0_cond1 (k0_t1 : Fin k0_t1_loop.trips) : BitVec 1 :=
  let c0_i32_74 : BitVec 32 := 0#32
  let c1_i32_75 : BitVec 32 := 1#32
  let arg6 : BitVec 32 := Scf.iv c0_i32_74 c1_i32_75 k0_t1
  let c2_i32_80 : BitVec 32 := 2#32
  let v60 : BitVec 32 := Scalar.addi arg6 c2_i32_80
  let c32_i32_81 : BitVec 32 := 32#32
  let v61 : BitVec 1 := Scalar.cmpi .slt v60 c32_i32_81
  let v62 : BitVec 32 := Scalar.extui v61
  let c0_i32_82 : BitVec 32 := 0#32
  let v63 : BitVec 1 := Scalar.cmpi .ne v62 c0_i32_82
  v63

def k0_off5 (k0_t1 : Fin k0_t1_loop.trips) : Fin 2 → Nat :=
  let c0_i32_74 : BitVec 32 := 0#32
  let c1_i32_75 : BitVec 32 := 1#32
  let arg6 : BitVec 32 := Scf.iv c0_i32_74 c1_i32_75 k0_t1
  let c2_i32_78 : BitVec 32 := 2#32
  let v58 : BitVec 32 := Scalar.addi arg6 c2_i32_78
  let c3_i32_79 : BitVec 32 := 3#32
  let v59 : BitVec 32 := Scalar.remsi v58 c3_i32_79
  let c0_i32_145 : BitVec 32 := 0#32
  ![v59.toNat, 0]
def k0_off6 (k0_t1 : Fin k0_t1_loop.trips) : Fin 4 → Nat :=
  let c0_i32_74 : BitVec 32 := 0#32
  let c1_i32_75 : BitVec 32 := 1#32
  let arg6 : BitVec 32 := Scf.iv c0_i32_74 c1_i32_75 k0_t1
  let c2_i32_78 : BitVec 32 := 2#32
  let v58 : BitVec 32 := Scalar.addi arg6 c2_i32_78
  let c3_i32_79 : BitVec 32 := 3#32
  let v59 : BitVec 32 := Scalar.remsi v58 c3_i32_79
  let c0_i32_146 : BitVec 32 := 0#32
  let c0_i32_147 : BitVec 32 := 0#32
  let c0_i32_148 : BitVec 32 := 0#32
  ![v59.toNat, 0, 0, 0]
def k0_off7 (k0_t1 : Fin k0_t1_loop.trips) : Fin 4 → Nat :=
  let c0_i32_74 : BitVec 32 := 0#32
  let c1_i32_75 : BitVec 32 := 1#32
  let arg6 : BitVec 32 := Scf.iv c0_i32_74 c1_i32_75 k0_t1
  let c2_i32_135 : BitVec 32 := 2#32
  let v162 : BitVec 32 := Scalar.addi arg6 c2_i32_135
  let c0_i32_137 : BitVec 32 := 0#32
  let v164 : BitVec 1 := Scalar.cmpi .sgt v162 c0_i32_137
  let v165 : BitVec 32 := Scalar.extui v164
  let c0_i32_138 : BitVec 32 := 0#32
  let v166 : BitVec 1 := Scalar.cmpi .slt v162 c0_i32_138
  let v167 : BitVec 32 := Scalar.extui v166
  let v168 : BitVec 32 := Scalar.subi v165 v167
  let c8_i32_136 : BitVec 32 := 8#32
  let c0_i32_139 : BitVec 32 := 0#32
  let v169 : BitVec 1 := Scalar.cmpi .sgt c8_i32_136 c0_i32_139
  let v170 : BitVec 32 := Scalar.extui v169
  let c0_i32_140 : BitVec 32 := 0#32
  let v171 : BitVec 1 := Scalar.cmpi .slt c8_i32_136 c0_i32_140
  let v172 : BitVec 32 := Scalar.extui v171
  let v173 : BitVec 32 := Scalar.subi v170 v172
  let v174 : BitVec 1 := Scalar.cmpi .ne v168 v173
  let v175 : BitVec 32 := Scalar.remsi v162 c8_i32_136
  let c0_i32_141 : BitVec 32 := 0#32
  let v176 : BitVec 1 := Scalar.cmpi .ne v175 c0_i32_141
  let v177 : BitVec 1 := Scalar.andi v174 v176
  let v163 : BitVec 32 := Scalar.divsi v162 c8_i32_136
  let c1_i32_142 : BitVec 32 := 1#32
  let v178 : BitVec 32 := Scalar.subi v163 c1_i32_142
  let v179 : BitVec 32 := Scalar.select v177 v178 v163
  let c0_i32_149 : BitVec 32 := 0#32
  let c8_i32_143 : BitVec 32 := 8#32
  let v180 : BitVec 32 := Scalar.remsi v162 c8_i32_143
  let c8_i32_144 : BitVec 32 := 8#32
  let v181 : BitVec 32 := Scalar.muli v180 c8_i32_144
  let c0_i32_150 : BitVec 32 := 0#32
  ![v179.toNat, 0, v181.toNat, 0]
def k0_off8 (k0_t1 : Fin k0_t1_loop.trips) : Fin 2 → Nat :=
  let c0_i32_74 : BitVec 32 := 0#32
  let c1_i32_75 : BitVec 32 := 1#32
  let arg6 : BitVec 32 := Scf.iv c0_i32_74 c1_i32_75 k0_t1
  let c2_i32_78 : BitVec 32 := 2#32
  let v58 : BitVec 32 := Scalar.addi arg6 c2_i32_78
  let c3_i32_79 : BitVec 32 := 3#32
  let v59 : BitVec 32 := Scalar.remsi v58 c3_i32_79
  let c1_i32_151 : BitVec 32 := 1#32
  ![v59.toNat, 1]
def k0_off9 (k0_t1 : Fin k0_t1_loop.trips) : Fin 4 → Nat :=
  let c0_i32_74 : BitVec 32 := 0#32
  let c1_i32_75 : BitVec 32 := 1#32
  let arg6 : BitVec 32 := Scf.iv c0_i32_74 c1_i32_75 k0_t1
  let c2_i32_78 : BitVec 32 := 2#32
  let v58 : BitVec 32 := Scalar.addi arg6 c2_i32_78
  let c3_i32_79 : BitVec 32 := 3#32
  let v59 : BitVec 32 := Scalar.remsi v58 c3_i32_79
  let c64_i32_152 : BitVec 32 := 64#32
  let c0_i32_153 : BitVec 32 := 0#32
  let c0_i32_154 : BitVec 32 := 0#32
  ![v59.toNat, 64, 0, 0]
def k0_off10 (k0_t1 : Fin k0_t1_loop.trips) : Fin 4 → Nat :=
  let c0_i32_74 : BitVec 32 := 0#32
  let c1_i32_75 : BitVec 32 := 1#32
  let arg6 : BitVec 32 := Scf.iv c0_i32_74 c1_i32_75 k0_t1
  let c2_i32_135 : BitVec 32 := 2#32
  let v162 : BitVec 32 := Scalar.addi arg6 c2_i32_135
  let c0_i32_137 : BitVec 32 := 0#32
  let v164 : BitVec 1 := Scalar.cmpi .sgt v162 c0_i32_137
  let v165 : BitVec 32 := Scalar.extui v164
  let c0_i32_138 : BitVec 32 := 0#32
  let v166 : BitVec 1 := Scalar.cmpi .slt v162 c0_i32_138
  let v167 : BitVec 32 := Scalar.extui v166
  let v168 : BitVec 32 := Scalar.subi v165 v167
  let c8_i32_136 : BitVec 32 := 8#32
  let c0_i32_139 : BitVec 32 := 0#32
  let v169 : BitVec 1 := Scalar.cmpi .sgt c8_i32_136 c0_i32_139
  let v170 : BitVec 32 := Scalar.extui v169
  let c0_i32_140 : BitVec 32 := 0#32
  let v171 : BitVec 1 := Scalar.cmpi .slt c8_i32_136 c0_i32_140
  let v172 : BitVec 32 := Scalar.extui v171
  let v173 : BitVec 32 := Scalar.subi v170 v172
  let v174 : BitVec 1 := Scalar.cmpi .ne v168 v173
  let v175 : BitVec 32 := Scalar.remsi v162 c8_i32_136
  let c0_i32_141 : BitVec 32 := 0#32
  let v176 : BitVec 1 := Scalar.cmpi .ne v175 c0_i32_141
  let v177 : BitVec 1 := Scalar.andi v174 v176
  let v163 : BitVec 32 := Scalar.divsi v162 c8_i32_136
  let c1_i32_142 : BitVec 32 := 1#32
  let v178 : BitVec 32 := Scalar.subi v163 c1_i32_142
  let v179 : BitVec 32 := Scalar.select v177 v178 v163
  let c64_i32_155 : BitVec 32 := 64#32
  let c8_i32_143 : BitVec 32 := 8#32
  let v180 : BitVec 32 := Scalar.remsi v162 c8_i32_143
  let c8_i32_144 : BitVec 32 := 8#32
  let v181 : BitVec 32 := Scalar.muli v180 c8_i32_144
  let c0_i32_156 : BitVec 32 := 0#32
  ![v179.toNat, 64, v181.toNat, 0]
def k0_off11 (k0_t1 : Fin k0_t1_loop.trips) : Fin 2 → Nat :=
  let c0_i32_74 : BitVec 32 := 0#32
  let c1_i32_75 : BitVec 32 := 1#32
  let arg6 : BitVec 32 := Scf.iv c0_i32_74 c1_i32_75 k0_t1
  let c2_i32_78 : BitVec 32 := 2#32
  let v58 : BitVec 32 := Scalar.addi arg6 c2_i32_78
  let c3_i32_79 : BitVec 32 := 3#32
  let v59 : BitVec 32 := Scalar.remsi v58 c3_i32_79
  let c2_i32_157 : BitVec 32 := 2#32
  ![v59.toNat, 2]
def k0_off12 (k0_t1 : Fin k0_t1_loop.trips) : Fin 4 → Nat :=
  let c0_i32_74 : BitVec 32 := 0#32
  let c1_i32_75 : BitVec 32 := 1#32
  let arg6 : BitVec 32 := Scf.iv c0_i32_74 c1_i32_75 k0_t1
  let c2_i32_78 : BitVec 32 := 2#32
  let v58 : BitVec 32 := Scalar.addi arg6 c2_i32_78
  let c3_i32_79 : BitVec 32 := 3#32
  let v59 : BitVec 32 := Scalar.remsi v58 c3_i32_79
  let c128_i32_158 : BitVec 32 := 128#32
  let c0_i32_159 : BitVec 32 := 0#32
  let c0_i32_160 : BitVec 32 := 0#32
  ![v59.toNat, 128, 0, 0]
def k0_off13 (k0_t1 : Fin k0_t1_loop.trips) : Fin 4 → Nat :=
  let c0_i32_74 : BitVec 32 := 0#32
  let c1_i32_75 : BitVec 32 := 1#32
  let arg6 : BitVec 32 := Scf.iv c0_i32_74 c1_i32_75 k0_t1
  let c2_i32_135 : BitVec 32 := 2#32
  let v162 : BitVec 32 := Scalar.addi arg6 c2_i32_135
  let c0_i32_137 : BitVec 32 := 0#32
  let v164 : BitVec 1 := Scalar.cmpi .sgt v162 c0_i32_137
  let v165 : BitVec 32 := Scalar.extui v164
  let c0_i32_138 : BitVec 32 := 0#32
  let v166 : BitVec 1 := Scalar.cmpi .slt v162 c0_i32_138
  let v167 : BitVec 32 := Scalar.extui v166
  let v168 : BitVec 32 := Scalar.subi v165 v167
  let c8_i32_136 : BitVec 32 := 8#32
  let c0_i32_139 : BitVec 32 := 0#32
  let v169 : BitVec 1 := Scalar.cmpi .sgt c8_i32_136 c0_i32_139
  let v170 : BitVec 32 := Scalar.extui v169
  let c0_i32_140 : BitVec 32 := 0#32
  let v171 : BitVec 1 := Scalar.cmpi .slt c8_i32_136 c0_i32_140
  let v172 : BitVec 32 := Scalar.extui v171
  let v173 : BitVec 32 := Scalar.subi v170 v172
  let v174 : BitVec 1 := Scalar.cmpi .ne v168 v173
  let v175 : BitVec 32 := Scalar.remsi v162 c8_i32_136
  let c0_i32_141 : BitVec 32 := 0#32
  let v176 : BitVec 1 := Scalar.cmpi .ne v175 c0_i32_141
  let v177 : BitVec 1 := Scalar.andi v174 v176
  let v163 : BitVec 32 := Scalar.divsi v162 c8_i32_136
  let c1_i32_142 : BitVec 32 := 1#32
  let v178 : BitVec 32 := Scalar.subi v163 c1_i32_142
  let v179 : BitVec 32 := Scalar.select v177 v178 v163
  let c128_i32_161 : BitVec 32 := 128#32
  let c8_i32_143 : BitVec 32 := 8#32
  let v180 : BitVec 32 := Scalar.remsi v162 c8_i32_143
  let c8_i32_144 : BitVec 32 := 8#32
  let v181 : BitVec 32 := Scalar.muli v180 c8_i32_144
  let c0_i32_162 : BitVec 32 := 0#32
  ![v179.toNat, 128, v181.toNat, 0]
def k0_off14 (k0_t1 : Fin k0_t1_loop.trips) : Fin 2 → Nat :=
  let c0_i32_74 : BitVec 32 := 0#32
  let c1_i32_75 : BitVec 32 := 1#32
  let arg6 : BitVec 32 := Scf.iv c0_i32_74 c1_i32_75 k0_t1
  let c2_i32_78 : BitVec 32 := 2#32
  let v58 : BitVec 32 := Scalar.addi arg6 c2_i32_78
  let c3_i32_79 : BitVec 32 := 3#32
  let v59 : BitVec 32 := Scalar.remsi v58 c3_i32_79
  let c3_i32_163 : BitVec 32 := 3#32
  ![v59.toNat, 3]
def k0_off15 (k0_t1 : Fin k0_t1_loop.trips) : Fin 4 → Nat :=
  let c0_i32_74 : BitVec 32 := 0#32
  let c1_i32_75 : BitVec 32 := 1#32
  let arg6 : BitVec 32 := Scf.iv c0_i32_74 c1_i32_75 k0_t1
  let c2_i32_78 : BitVec 32 := 2#32
  let v58 : BitVec 32 := Scalar.addi arg6 c2_i32_78
  let c3_i32_79 : BitVec 32 := 3#32
  let v59 : BitVec 32 := Scalar.remsi v58 c3_i32_79
  let c192_i32_164 : BitVec 32 := 192#32
  let c0_i32_165 : BitVec 32 := 0#32
  let c0_i32_166 : BitVec 32 := 0#32
  ![v59.toNat, 192, 0, 0]
def k0_off16 (k0_t1 : Fin k0_t1_loop.trips) : Fin 4 → Nat :=
  let c0_i32_74 : BitVec 32 := 0#32
  let c1_i32_75 : BitVec 32 := 1#32
  let arg6 : BitVec 32 := Scf.iv c0_i32_74 c1_i32_75 k0_t1
  let c2_i32_135 : BitVec 32 := 2#32
  let v162 : BitVec 32 := Scalar.addi arg6 c2_i32_135
  let c0_i32_137 : BitVec 32 := 0#32
  let v164 : BitVec 1 := Scalar.cmpi .sgt v162 c0_i32_137
  let v165 : BitVec 32 := Scalar.extui v164
  let c0_i32_138 : BitVec 32 := 0#32
  let v166 : BitVec 1 := Scalar.cmpi .slt v162 c0_i32_138
  let v167 : BitVec 32 := Scalar.extui v166
  let v168 : BitVec 32 := Scalar.subi v165 v167
  let c8_i32_136 : BitVec 32 := 8#32
  let c0_i32_139 : BitVec 32 := 0#32
  let v169 : BitVec 1 := Scalar.cmpi .sgt c8_i32_136 c0_i32_139
  let v170 : BitVec 32 := Scalar.extui v169
  let c0_i32_140 : BitVec 32 := 0#32
  let v171 : BitVec 1 := Scalar.cmpi .slt c8_i32_136 c0_i32_140
  let v172 : BitVec 32 := Scalar.extui v171
  let v173 : BitVec 32 := Scalar.subi v170 v172
  let v174 : BitVec 1 := Scalar.cmpi .ne v168 v173
  let v175 : BitVec 32 := Scalar.remsi v162 c8_i32_136
  let c0_i32_141 : BitVec 32 := 0#32
  let v176 : BitVec 1 := Scalar.cmpi .ne v175 c0_i32_141
  let v177 : BitVec 1 := Scalar.andi v174 v176
  let v163 : BitVec 32 := Scalar.divsi v162 c8_i32_136
  let c1_i32_142 : BitVec 32 := 1#32
  let v178 : BitVec 32 := Scalar.subi v163 c1_i32_142
  let v179 : BitVec 32 := Scalar.select v177 v178 v163
  let c192_i32_167 : BitVec 32 := 192#32
  let c8_i32_143 : BitVec 32 := 8#32
  let v180 : BitVec 32 := Scalar.remsi v162 c8_i32_143
  let c8_i32_144 : BitVec 32 := 8#32
  let v181 : BitVec 32 := Scalar.muli v180 c8_i32_144
  let c0_i32_168 : BitVec 32 := 0#32
  ![v179.toNat, 192, v181.toNat, 0]
def k0_off17 (k0_t1 : Fin k0_t1_loop.trips) : Fin 2 → Nat :=
  let c0_i32_74 : BitVec 32 := 0#32
  let c1_i32_75 : BitVec 32 := 1#32
  let arg6 : BitVec 32 := Scf.iv c0_i32_74 c1_i32_75 k0_t1
  let c3_i32_77 : BitVec 32 := 3#32
  let v57 : BitVec 32 := Scalar.remsi arg6 c3_i32_77
  let c0_i32_92 : BitVec 32 := 0#32
  ![v57.toNat, 0]
def k0_off18 (k0_t1 : Fin k0_t1_loop.trips) : Fin 4 → Nat :=
  let c0_i32_74 : BitVec 32 := 0#32
  let c1_i32_75 : BitVec 32 := 1#32
  let arg6 : BitVec 32 := Scf.iv c0_i32_74 c1_i32_75 k0_t1
  let c3_i32_77 : BitVec 32 := 3#32
  let v57 : BitVec 32 := Scalar.remsi arg6 c3_i32_77
  let c0_i32_93 : BitVec 32 := 0#32
  let c0_i32_94 : BitVec 32 := 0#32
  let c0_i32_95 : BitVec 32 := 0#32
  ![v57.toNat, 0, 0, 0]
def k0_off19 (k0_t1 : Fin k0_t1_loop.trips) : Fin 4 → Nat :=
  let c0_i32_74 : BitVec 32 := 0#32
  let c1_i32_75 : BitVec 32 := 1#32
  let arg6 : BitVec 32 := Scf.iv c0_i32_74 c1_i32_75 k0_t1
  let c0_i32_84 : BitVec 32 := 0#32
  let v65 : BitVec 1 := Scalar.cmpi .sgt arg6 c0_i32_84
  let v66 : BitVec 32 := Scalar.extui v65
  let c0_i32_85 : BitVec 32 := 0#32
  let v67 : BitVec 1 := Scalar.cmpi .slt arg6 c0_i32_85
  let v68 : BitVec 32 := Scalar.extui v67
  let v69 : BitVec 32 := Scalar.subi v66 v68
  let c8_i32_83 : BitVec 32 := 8#32
  let c0_i32_86 : BitVec 32 := 0#32
  let v70 : BitVec 1 := Scalar.cmpi .sgt c8_i32_83 c0_i32_86
  let v71 : BitVec 32 := Scalar.extui v70
  let c0_i32_87 : BitVec 32 := 0#32
  let v72 : BitVec 1 := Scalar.cmpi .slt c8_i32_83 c0_i32_87
  let v73 : BitVec 32 := Scalar.extui v72
  let v74 : BitVec 32 := Scalar.subi v71 v73
  let v75 : BitVec 1 := Scalar.cmpi .ne v69 v74
  let v76 : BitVec 32 := Scalar.remsi arg6 c8_i32_83
  let c0_i32_88 : BitVec 32 := 0#32
  let v77 : BitVec 1 := Scalar.cmpi .ne v76 c0_i32_88
  let v78 : BitVec 1 := Scalar.andi v75 v77
  let v64 : BitVec 32 := Scalar.divsi arg6 c8_i32_83
  let c1_i32_89 : BitVec 32 := 1#32
  let v79 : BitVec 32 := Scalar.subi v64 c1_i32_89
  let v80 : BitVec 32 := Scalar.select v78 v79 v64
  let c0_i32_96 : BitVec 32 := 0#32
  let c8_i32_90 : BitVec 32 := 8#32
  let v81 : BitVec 32 := Scalar.remsi arg6 c8_i32_90
  let c8_i32_91 : BitVec 32 := 8#32
  let v82 : BitVec 32 := Scalar.muli v81 c8_i32_91
  let c0_i32_97 : BitVec 32 := 0#32
  ![v80.toNat, 0, v82.toNat, 0]
def k0_off20 (k0_t1 : Fin k0_t1_loop.trips) : Fin 2 → Nat :=
  let c0_i32_74 : BitVec 32 := 0#32
  let c1_i32_75 : BitVec 32 := 1#32
  let arg6 : BitVec 32 := Scf.iv c0_i32_74 c1_i32_75 k0_t1
  let c3_i32_77 : BitVec 32 := 3#32
  let v57 : BitVec 32 := Scalar.remsi arg6 c3_i32_77
  let c1_i32_98 : BitVec 32 := 1#32
  ![v57.toNat, 1]
def k0_off21 (k0_t1 : Fin k0_t1_loop.trips) : Fin 4 → Nat :=
  let c0_i32_74 : BitVec 32 := 0#32
  let c1_i32_75 : BitVec 32 := 1#32
  let arg6 : BitVec 32 := Scf.iv c0_i32_74 c1_i32_75 k0_t1
  let c3_i32_77 : BitVec 32 := 3#32
  let v57 : BitVec 32 := Scalar.remsi arg6 c3_i32_77
  let c64_i32_99 : BitVec 32 := 64#32
  let c0_i32_100 : BitVec 32 := 0#32
  let c0_i32_101 : BitVec 32 := 0#32
  ![v57.toNat, 64, 0, 0]
def k0_off22 (k0_t1 : Fin k0_t1_loop.trips) : Fin 4 → Nat :=
  let c0_i32_74 : BitVec 32 := 0#32
  let c1_i32_75 : BitVec 32 := 1#32
  let arg6 : BitVec 32 := Scf.iv c0_i32_74 c1_i32_75 k0_t1
  let c0_i32_84 : BitVec 32 := 0#32
  let v65 : BitVec 1 := Scalar.cmpi .sgt arg6 c0_i32_84
  let v66 : BitVec 32 := Scalar.extui v65
  let c0_i32_85 : BitVec 32 := 0#32
  let v67 : BitVec 1 := Scalar.cmpi .slt arg6 c0_i32_85
  let v68 : BitVec 32 := Scalar.extui v67
  let v69 : BitVec 32 := Scalar.subi v66 v68
  let c8_i32_83 : BitVec 32 := 8#32
  let c0_i32_86 : BitVec 32 := 0#32
  let v70 : BitVec 1 := Scalar.cmpi .sgt c8_i32_83 c0_i32_86
  let v71 : BitVec 32 := Scalar.extui v70
  let c0_i32_87 : BitVec 32 := 0#32
  let v72 : BitVec 1 := Scalar.cmpi .slt c8_i32_83 c0_i32_87
  let v73 : BitVec 32 := Scalar.extui v72
  let v74 : BitVec 32 := Scalar.subi v71 v73
  let v75 : BitVec 1 := Scalar.cmpi .ne v69 v74
  let v76 : BitVec 32 := Scalar.remsi arg6 c8_i32_83
  let c0_i32_88 : BitVec 32 := 0#32
  let v77 : BitVec 1 := Scalar.cmpi .ne v76 c0_i32_88
  let v78 : BitVec 1 := Scalar.andi v75 v77
  let v64 : BitVec 32 := Scalar.divsi arg6 c8_i32_83
  let c1_i32_89 : BitVec 32 := 1#32
  let v79 : BitVec 32 := Scalar.subi v64 c1_i32_89
  let v80 : BitVec 32 := Scalar.select v78 v79 v64
  let c64_i32_102 : BitVec 32 := 64#32
  let c8_i32_90 : BitVec 32 := 8#32
  let v81 : BitVec 32 := Scalar.remsi arg6 c8_i32_90
  let c8_i32_91 : BitVec 32 := 8#32
  let v82 : BitVec 32 := Scalar.muli v81 c8_i32_91
  let c0_i32_103 : BitVec 32 := 0#32
  ![v80.toNat, 64, v82.toNat, 0]
def k0_off23 (k0_t1 : Fin k0_t1_loop.trips) : Fin 2 → Nat :=
  let c0_i32_74 : BitVec 32 := 0#32
  let c1_i32_75 : BitVec 32 := 1#32
  let arg6 : BitVec 32 := Scf.iv c0_i32_74 c1_i32_75 k0_t1
  let c3_i32_77 : BitVec 32 := 3#32
  let v57 : BitVec 32 := Scalar.remsi arg6 c3_i32_77
  let c2_i32_104 : BitVec 32 := 2#32
  ![v57.toNat, 2]
def k0_off24 (k0_t1 : Fin k0_t1_loop.trips) : Fin 4 → Nat :=
  let c0_i32_74 : BitVec 32 := 0#32
  let c1_i32_75 : BitVec 32 := 1#32
  let arg6 : BitVec 32 := Scf.iv c0_i32_74 c1_i32_75 k0_t1
  let c3_i32_77 : BitVec 32 := 3#32
  let v57 : BitVec 32 := Scalar.remsi arg6 c3_i32_77
  let c128_i32_105 : BitVec 32 := 128#32
  let c0_i32_106 : BitVec 32 := 0#32
  let c0_i32_107 : BitVec 32 := 0#32
  ![v57.toNat, 128, 0, 0]
def k0_off25 (k0_t1 : Fin k0_t1_loop.trips) : Fin 4 → Nat :=
  let c0_i32_74 : BitVec 32 := 0#32
  let c1_i32_75 : BitVec 32 := 1#32
  let arg6 : BitVec 32 := Scf.iv c0_i32_74 c1_i32_75 k0_t1
  let c0_i32_84 : BitVec 32 := 0#32
  let v65 : BitVec 1 := Scalar.cmpi .sgt arg6 c0_i32_84
  let v66 : BitVec 32 := Scalar.extui v65
  let c0_i32_85 : BitVec 32 := 0#32
  let v67 : BitVec 1 := Scalar.cmpi .slt arg6 c0_i32_85
  let v68 : BitVec 32 := Scalar.extui v67
  let v69 : BitVec 32 := Scalar.subi v66 v68
  let c8_i32_83 : BitVec 32 := 8#32
  let c0_i32_86 : BitVec 32 := 0#32
  let v70 : BitVec 1 := Scalar.cmpi .sgt c8_i32_83 c0_i32_86
  let v71 : BitVec 32 := Scalar.extui v70
  let c0_i32_87 : BitVec 32 := 0#32
  let v72 : BitVec 1 := Scalar.cmpi .slt c8_i32_83 c0_i32_87
  let v73 : BitVec 32 := Scalar.extui v72
  let v74 : BitVec 32 := Scalar.subi v71 v73
  let v75 : BitVec 1 := Scalar.cmpi .ne v69 v74
  let v76 : BitVec 32 := Scalar.remsi arg6 c8_i32_83
  let c0_i32_88 : BitVec 32 := 0#32
  let v77 : BitVec 1 := Scalar.cmpi .ne v76 c0_i32_88
  let v78 : BitVec 1 := Scalar.andi v75 v77
  let v64 : BitVec 32 := Scalar.divsi arg6 c8_i32_83
  let c1_i32_89 : BitVec 32 := 1#32
  let v79 : BitVec 32 := Scalar.subi v64 c1_i32_89
  let v80 : BitVec 32 := Scalar.select v78 v79 v64
  let c128_i32_108 : BitVec 32 := 128#32
  let c8_i32_90 : BitVec 32 := 8#32
  let v81 : BitVec 32 := Scalar.remsi arg6 c8_i32_90
  let c8_i32_91 : BitVec 32 := 8#32
  let v82 : BitVec 32 := Scalar.muli v81 c8_i32_91
  let c0_i32_109 : BitVec 32 := 0#32
  ![v80.toNat, 128, v82.toNat, 0]
def k0_off26 (k0_t1 : Fin k0_t1_loop.trips) : Fin 2 → Nat :=
  let c0_i32_74 : BitVec 32 := 0#32
  let c1_i32_75 : BitVec 32 := 1#32
  let arg6 : BitVec 32 := Scf.iv c0_i32_74 c1_i32_75 k0_t1
  let c3_i32_77 : BitVec 32 := 3#32
  let v57 : BitVec 32 := Scalar.remsi arg6 c3_i32_77
  let c3_i32_110 : BitVec 32 := 3#32
  ![v57.toNat, 3]
def k0_off27 (k0_t1 : Fin k0_t1_loop.trips) : Fin 4 → Nat :=
  let c0_i32_74 : BitVec 32 := 0#32
  let c1_i32_75 : BitVec 32 := 1#32
  let arg6 : BitVec 32 := Scf.iv c0_i32_74 c1_i32_75 k0_t1
  let c3_i32_77 : BitVec 32 := 3#32
  let v57 : BitVec 32 := Scalar.remsi arg6 c3_i32_77
  let c192_i32_111 : BitVec 32 := 192#32
  let c0_i32_112 : BitVec 32 := 0#32
  let c0_i32_113 : BitVec 32 := 0#32
  ![v57.toNat, 192, 0, 0]
def k0_off28 (k0_t1 : Fin k0_t1_loop.trips) : Fin 4 → Nat :=
  let c0_i32_74 : BitVec 32 := 0#32
  let c1_i32_75 : BitVec 32 := 1#32
  let arg6 : BitVec 32 := Scf.iv c0_i32_74 c1_i32_75 k0_t1
  let c0_i32_84 : BitVec 32 := 0#32
  let v65 : BitVec 1 := Scalar.cmpi .sgt arg6 c0_i32_84
  let v66 : BitVec 32 := Scalar.extui v65
  let c0_i32_85 : BitVec 32 := 0#32
  let v67 : BitVec 1 := Scalar.cmpi .slt arg6 c0_i32_85
  let v68 : BitVec 32 := Scalar.extui v67
  let v69 : BitVec 32 := Scalar.subi v66 v68
  let c8_i32_83 : BitVec 32 := 8#32
  let c0_i32_86 : BitVec 32 := 0#32
  let v70 : BitVec 1 := Scalar.cmpi .sgt c8_i32_83 c0_i32_86
  let v71 : BitVec 32 := Scalar.extui v70
  let c0_i32_87 : BitVec 32 := 0#32
  let v72 : BitVec 1 := Scalar.cmpi .slt c8_i32_83 c0_i32_87
  let v73 : BitVec 32 := Scalar.extui v72
  let v74 : BitVec 32 := Scalar.subi v71 v73
  let v75 : BitVec 1 := Scalar.cmpi .ne v69 v74
  let v76 : BitVec 32 := Scalar.remsi arg6 c8_i32_83
  let c0_i32_88 : BitVec 32 := 0#32
  let v77 : BitVec 1 := Scalar.cmpi .ne v76 c0_i32_88
  let v78 : BitVec 1 := Scalar.andi v75 v77
  let v64 : BitVec 32 := Scalar.divsi arg6 c8_i32_83
  let c1_i32_89 : BitVec 32 := 1#32
  let v79 : BitVec 32 := Scalar.subi v64 c1_i32_89
  let v80 : BitVec 32 := Scalar.select v78 v79 v64
  let c192_i32_114 : BitVec 32 := 192#32
  let c8_i32_90 : BitVec 32 := 8#32
  let v81 : BitVec 32 := Scalar.remsi arg6 c8_i32_90
  let c8_i32_91 : BitVec 32 := 8#32
  let v82 : BitVec 32 := Scalar.muli v81 c8_i32_91
  let c0_i32_115 : BitVec 32 := 0#32
  ![v80.toNat, 192, v82.toNat, 0]
def k0_off29 (k0_t1 : Fin k0_t1_loop.trips) : Fin 4 → Nat :=
  let c0_i32_74 : BitVec 32 := 0#32
  let c1_i32_75 : BitVec 32 := 1#32
  let arg6 : BitVec 32 := Scf.iv c0_i32_74 c1_i32_75 k0_t1
  let c3_i32_77 : BitVec 32 := 3#32
  let v57 : BitVec 32 := Scalar.remsi arg6 c3_i32_77
  let v107 : Index := Scalar.indexCast v57
  let c0_116 : Index := 0#32
  let c0_117 : Index := 0#32
  let c0_118 : Index := 0#32
  ![v107.toNat, 0, 0, 0]
def k0_off30 (k0_t1 : Fin k0_t1_loop.trips) : Fin 3 → Nat :=
  let c0_i32_74 : BitVec 32 := 0#32
  let c1_i32_75 : BitVec 32 := 1#32
  let arg6 : BitVec 32 := Scf.iv c0_i32_74 c1_i32_75 k0_t1
  let c0_i32_126 : BitVec 32 := 0#32
  let v136 : BitVec 1 := Scalar.cmpi .sgt arg6 c0_i32_126
  let v137 : BitVec 32 := Scalar.extui v136
  let c0_i32_127 : BitVec 32 := 0#32
  let v138 : BitVec 1 := Scalar.cmpi .slt arg6 c0_i32_127
  let v139 : BitVec 32 := Scalar.extui v138
  let v140 : BitVec 32 := Scalar.subi v137 v139
  let c8_i32_125 : BitVec 32 := 8#32
  let c0_i32_128 : BitVec 32 := 0#32
  let v141 : BitVec 1 := Scalar.cmpi .sgt c8_i32_125 c0_i32_128
  let v142 : BitVec 32 := Scalar.extui v141
  let c0_i32_129 : BitVec 32 := 0#32
  let v143 : BitVec 1 := Scalar.cmpi .slt c8_i32_125 c0_i32_129
  let v144 : BitVec 32 := Scalar.extui v143
  let v145 : BitVec 32 := Scalar.subi v142 v144
  let v146 : BitVec 1 := Scalar.cmpi .ne v140 v145
  let v147 : BitVec 32 := Scalar.remsi arg6 c8_i32_125
  let c0_i32_130 : BitVec 32 := 0#32
  let v148 : BitVec 1 := Scalar.cmpi .ne v147 c0_i32_130
  let v149 : BitVec 1 := Scalar.andi v146 v148
  let v135 : BitVec 32 := Scalar.divsi arg6 c8_i32_125
  let c1_i32_131 : BitVec 32 := 1#32
  let v150 : BitVec 32 := Scalar.subi v135 c1_i32_131
  let v151 : BitVec 32 := Scalar.select v149 v150 v135
  let v157 : Index := Scalar.indexCast v151
  let c8_i32_132 : BitVec 32 := 8#32
  let v152 : BitVec 32 := Scalar.remsi arg6 c8_i32_132
  let c8_i32_133 : BitVec 32 := 8#32
  let v156 : BitVec 32 := Scalar.muli v152 c8_i32_133
  let v158 : Index := Scalar.indexCast v156
  let c0_134 : Index := 0#32
  ![v157.toNat, v158.toNat, 0]
abbrev stage0_0 : Fin 1 → Memref sig .tc .vmem S256x1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x256x64x2048 : Shape := ⟨4, ![4, 256, 64, 2048]⟩
abbrev S256 : Shape := ⟨1, ![256]⟩
abbrev S4x64x2048x256 : Shape := ⟨4, ![4, 64, 2048, 256]⟩
abbrev S_ : Shape := ⟨0, ![]⟩
abbrev S4x64x2048 : Shape := ⟨3, ![4, 64, 2048]⟩
abbrev S4x64x2048x1 : Shape := ⟨4, ![4, 64, 2048, 1]⟩
abbrev S1x1x1x256 : Shape := ⟨4, ![1, 1, 1, 256]⟩
abbrev S4x64 : Shape := ⟨2, ![4, 64]⟩
abbrev S4x64x1 : Shape := ⟨3, ![4, 64, 1]⟩
abbrev S4x64x256 : Shape := ⟨3, ![4, 64, 256]⟩

abbrev nBuf : Space → Nat
  | .hbm => 36
  | .vmem => 0
  | .smem => 0
  | _ => 0

abbrev bufTy : (tb : Table) → Fin (tcTables nBuf tb) → BufTy
  | .hbm, ⟨0, _⟩ => ⟨S4x256x64x2048, .f32⟩
  | .hbm, ⟨1, _⟩ => ⟨S256, .f32⟩
  | .hbm, ⟨2, _⟩ => ⟨S256, .f32⟩
  | .hbm, ⟨3, _⟩ => ⟨S4x64x2048x256, .f32⟩
  | .hbm, ⟨4, _⟩ => ⟨S4x64x2048x256, .f32⟩
  | .hbm, ⟨5, _⟩ => ⟨S_, .f32⟩
  | .hbm, ⟨6, _⟩ => ⟨S4x64x2048, .f32⟩
  | .hbm, ⟨7, _⟩ => ⟨S4x64x2048x1, .f32⟩
  | .hbm, ⟨8, _⟩ => ⟨S_, .f32⟩
  | .hbm, ⟨9, _⟩ => ⟨S4x64x2048x1, .f32⟩
  | .hbm, ⟨10, _⟩ => ⟨S4x64x2048x1, .f32⟩
  | .hbm, ⟨11, _⟩ => ⟨S_, .f32⟩
  | .hbm, ⟨12, _⟩ => ⟨S4x64x2048x1, .f32⟩
  | .hbm, ⟨13, _⟩ => ⟨S4x64x2048x1, .f32⟩
  | .hbm, ⟨14, _⟩ => ⟨S4x64x2048x1, .f32⟩
  | .hbm, ⟨15, _⟩ => ⟨S4x64x2048x256, .f32⟩
  | .hbm, ⟨16, _⟩ => ⟨S4x64x2048x256, .f32⟩
  | .hbm, ⟨17, _⟩ => ⟨S1x1x1x256, .f32⟩
  | .hbm, ⟨18, _⟩ => ⟨S4x64x2048x256, .f32⟩
  | .hbm, ⟨19, _⟩ => ⟨S4x64x2048x256, .f32⟩
  | .hbm, ⟨20, _⟩ => ⟨S4x64x2048, .f32⟩
  | .hbm, ⟨21, _⟩ => ⟨S_, .f32⟩
  | .hbm, ⟨22, _⟩ => ⟨S4x64, .f32⟩
  | .hbm, ⟨23, _⟩ => ⟨S_, .f32⟩
  | .hbm, ⟨24, _⟩ => ⟨S4x64, .f32⟩
  | .hbm, ⟨25, _⟩ => ⟨S4x64, .f32⟩
  | .hbm, ⟨26, _⟩ => ⟨S4x64x1, .f32⟩
  | .hbm, ⟨27, _⟩ => ⟨S4x64x2048, .f32⟩
  | .hbm, ⟨28, _⟩ => ⟨S4x64x2048, .f32⟩
  | .hbm, ⟨29, _⟩ => ⟨S4x64x2048, .f32⟩
  | .hbm, ⟨30, _⟩ => ⟨S_, .f32⟩
  | .hbm, ⟨31, _⟩ => ⟨S4x64, .f32⟩
  | .hbm, ⟨32, _⟩ => ⟨S4x64x1, .f32⟩
  | .hbm, ⟨33, _⟩ => ⟨S4x64x2048, .f32⟩
  | .hbm, ⟨34, _⟩ => ⟨S4x64x2048, .f32⟩
  | .hbm, ⟨35, _⟩ => ⟨S4x64x256, .f32⟩
  | _, _ => ⟨S4x256x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.Names.lean ====
/-
  Names for what the kernel's ring moves, and the closed form of every offset it computes.

  The kernel runs 32 steps. Step `b` reads the rows `8 * (b % 8) … + 7` of batch entry `b / 8` of `x`, in four parts of 64
  channels each. `blk b q` is part `q` of step `b` in HBM, `part s q` is part `q` of the ring's slot `s`, `cell s q` is the
  semaphore that part's transfer completes on. Slot `s` whole is `slotW s`. The equations marked `sl_canon` say that each
  slice the kernel's text takes is one of these.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Tactic

@[expose] public section

noncomputable section

namespace Cert.Proof.Pool

open Cert.KernelIdeal Cert.KernelIdeal.Gen
open Idealize.ShloMosaic
open Idealize.ShloMosaic.TcCoe Idealize.ShloMosaic.Tactic

/-! ## The offsets -/

/-- Where part `q` of step `b` starts in `x`. -/
abbrev blkOff (b : Fin 32) (q : Fin 4) : Fin 4 → Nat := ![b.val / 8, 64 * q.val, 8 * (b.val % 8), 0]
/-- Where part `q` of slot `s` starts in the ring. -/
abbrev partOff (s : Fin 3) (q : Fin 4) : Fin 4 → Nat := ![s.val, 64 * q.val, 0, 0]
/-- Where slot `s` starts in the ring. -/
abbrev slotOff (s : Fin 3) : Fin 4 → Nat := ![s.val, 0, 0, 0]
/-- The position of part `q` of slot `s` in the semaphore array. -/
abbrev cellOff (s : Fin 3) (q : Fin 4) : Fin 2 → Nat := ![s.val, q.val]
/-- Where step `b`'s rows start in the result. -/
abbrev outOff (b : Fin 32) : Fin 3 → Nat := ![b.val / 8, 8 * (b.val % 8), 0]

theorem blkOff_inb (b : Fin 32) (q : Fin 4) : ∀ a, blkOff b q a + S1x64x8x2048.size a ≤ S4x256x64x2048.size a := by
  have := b.isLt; have := q.isLt; intro a; fin_cases a
  · show b.val / 8 + 1 ≤ 4; omega
  · show 64 * q.val + 64 ≤ 256; omega
  · show 8 * (b.val % 8) + 8 ≤ 64; omega
  · show 0 + 2048 ≤ 2048; omega
theorem partOff_inb (s : Fin 3) (q : Fin 4) : ∀ a, partOff s q a + S1x64x8x2048.size a ≤ S3x256x8x2048.size a := by
  have := s.isLt; have := q.isLt; intro a; fin_cases a
  · show s.val + 1 ≤ 3; omega
  · show 64 * q.val + 64 ≤ 256; omega
  · show 0 + 8 ≤ 8; omega
  · show 0 + 2048 ≤ 2048; omega
theorem slotOff_inb (s : Fin 3) : ∀ a, slotOff s a + S1x256x8x2048.size a ≤ S3x256x8x2048.size a := by
  have := s.isLt; intro a; fin_cases a
  · show s.val + 1 ≤ 3; omega
  · show 0 + 256 ≤ 256; omega
  · show 0 + 8 ≤ 8; omega
  · show 0 + 2048 ≤ 2048; omega
theorem cellOff_inb (s : Fin 3) (q : Fin 4) : ∀ a, cellOff s q a + S1x1.size a ≤ S3x4.size a := by
  have := s.isLt; have := q.isLt; intro a; fin_cases a
  · show s.val + 1 ≤ 3; omega
  · show q.val + 1 ≤ 4; omega
theorem outOff_inb (b : Fin 32) : ∀ a, outOff b a + S1x8x256.size a ≤ S4x64x256.size a := by
  have := b.isLt; intro a; fin_cases a
  · show b.val / 8 + 1 ≤ 4; omega
  · show 8 * (b.val % 8) + 8 ≤ 64; omega
  · show 0 + 256 ≤ 256; omega

/-! ## The names -/

abbrev xM : Memref sig .tc .hbm S4x256x64x2048 .f32 := Memref.whole main_arg0
abbrev bufM : Memref sig .tc .vmem S3x256x8x2048 .f32 := Memref.whole cc0_scratch0

/-- The rectangle of part `q` of step `b` in `x`. -/
abbrev blkR (b : Fin 32) (q : Fin 4) : Rect S4x256x64x2048 := Rect.unit (blkOff b q) S1x64x8x2048.size (blkOff_inb b q)
/-- The rectangle of part `q` of slot `s` in the ring. -/
abbrev partR (s : Fin 3) (q : Fin 4) : Rect S3x256x8x2048 := Rect.unit (partOff s q) S1x64x8x2048.size (partOff_inb s q)
/-- The rectangle of slot `s` in the ring. -/
abbrev slotR (s : Fin 3) : Rect S3x256x8x2048 := Rect.unit (slotOff s) S1x256x8x2048.size (slotOff_inb s)
/-- The rectangle of step `b`'s rows in the result. -/
abbrev outR (b : Fin 32) : Rect S4x64x256 := Rect.unit (outOff b) S1x8x256.size (outOff_inb b)

/-- Part `q` of step `b` in `x`, as the body slices and squeezes it. -/
def blk (b : Fin 32) (q : Fin 4) : Memref sig .tc .hbm S64x8x2048 .f32 :=
  (xM.slice (blkR b q) (fun _ => rfl)).squeeze S64x8x2048 squeezes_S1x64x8x2048_S64x8x2048
/-- Part `q` of slot `s`, as the body slices and squeezes it. -/
def part (s : Fin 3) (q : Fin 4) : Memref sig .tc .vmem S64x8x2048 .f32 :=
  (bufM.slice (partR s q) (fun _ => rfl)).squeeze S64x8x2048 squeezes_S1x64x8x2048_S64x8x2048
/-- The semaphore of part `q` of slot `s`. -/
def cell (s : Fin 3) (q : Fin 4) : DmaSems sig S_ :=
  (cc0_scratch1.slice (Rect.unit (s := S3x4) (cellOff s q) S1x1.size (cellOff_inb s q))).squeeze S_ squeezes_S1x1_S_
/-- Slot `s` whole. -/
def slotW (s : Fin 3) : Memref sig .tc .vmem S1x256x8x2048 .f32 := bufM.slice (slotR s) (fun _ => rfl)

instance (s : Fin 3) (q : Fin 4) : ClosedOff (partOff s q) := ⟨partOff s q, rfl⟩
instance (b : Fin 32) (q : Fin 4) : ClosedOff (blkOff b q) := ⟨blkOff b q, rfl⟩
instance (s : Fin 3) : ClosedOff (slotOff s) := ⟨slotOff s, rfl⟩
instance (b : Fin 32) : ClosedOff (outOff b) := ⟨outOff b, rfl⟩

/-! ## The offsets the kernel computes, in closed form -/

theorem trips_eq : k0_t1_loop.trips = 32 := by decide
/-- The loop fetches ahead at the trips that have a step two ahead. -/
theorem cond_iff : ∀ k : Fin k0_t1_loop.trips, k0_cond1 k = 1#1 ↔ k.val + 2 < 32 := by decide +kernel

-- the fetch two ahead: part 0, 1, 2, 3, each its semaphore, its place in the slot, its source
theorem off5_eq : ∀ k : Fin k0_t1_loop.trips, k.val + 2 < 32 → k0_off5 k = cellOff (Ring.sl 3 (k.val + 2)) 0 := by decide +kernel
theorem off6_eq : ∀ k : Fin k0_t1_loop.trips, k.val + 2 < 32 → k0_off6 k = partOff (Ring.sl 3 (k.val + 2)) 0 := by decide +kernel
theorem off7_eq : ∀ k : Fin k0_t1_loop.trips, k.val + 2 < 32 → k0_off7 k = blkOff (Ring.bk 32 (k.val + 2)) 0 := by decide +kernel
theorem off8_eq : ∀ k : Fin k0_t1_loop.trips, k.val + 2 < 32 → k0_off8 k = cellOff (Ring.sl 3 (k.val + 2)) 1 := by decide +kernel
theorem off9_eq : ∀ k : Fin k0_t1_loop.trips, k.val + 2 < 32 → k0_off9 k = partOff (Ring.sl 3 (k.val + 2)) 1 := by decide +kernel
theorem off10_eq : ∀ k : Fin k0_t1_loop.trips, k.val + 2 < 32 → k0_off10 k = blkOff (Ring.bk 32 (k.val + 2)) 1 := by decide +kernel
theorem off11_eq : ∀ k : Fin k0_t1_loop.trips, k.val + 2 < 32 → k0_off11 k = cellOff (Ring.sl 3 (k.val + 2)) 2 := by decide +kernel
theorem off12_eq : ∀ k : Fin k0_t1_loop.trips, k.val + 2 < 32 → k0_off12 k = partOff (Ring.sl 3 (k.val + 2)) 2 := by decide +kernel
theorem off13_eq : ∀ k : Fin k0_t1_loop.trips, k.val + 2 < 32 → k0_off13 k = blkOff (Ring.bk 32 (k.val + 2)) 2 := by decide +kernel
theorem off14_eq : ∀ k : Fin k0_t1_loop.trips, k.val + 2 < 32 → k0_off14 k = cellOff (Ring.sl 3 (k.val + 2)) 3 := by decide +kernel
theorem off15_eq : ∀ k : Fin k0_t1_loop.trips, k.val + 2 < 32 → k0_off15 k = partOff (Ring.sl 3 (k.val + 2)) 3 := by decide +kernel
theorem off16_eq : ∀ k : Fin k0_t1_loop.trips, k.val + 2 < 32 → k0_off16 k = blkOff (Ring.bk 32 (k.val + 2)) 3 := by decide +kernel
-- the waits of trip `k`'s own step
theorem off17_eq : ∀ k : Fin k0_t1_loop.trips, k0_off17 k = cellOff (Ring.sl 3 k.val) 0 := by decide +kernel
theorem off18_eq : ∀ k : Fin k0_t1_loop.trips, k0_off18 k = partOff (Ring.sl 3 k.val) 0 := by decide +kernel
theorem off19_eq : ∀ k : Fin k0_t1_loop.trips, k0_off19 k = blkOff (Ring.bk 32 k.val) 0 := by decide +kernel
theorem off20_eq : ∀ k : Fin k0_t1_loop.trips, k0_off20 k = cellOff (Ring.sl 3 k.val) 1 := by decide +kernel
theorem off21_eq : ∀ k : Fin k0_t1_loop.trips, k0_off21 k = partOff (Ring.sl 3 k.val) 1 := by decide +kernel
theorem off22_eq : ∀ k : Fin k0_t1_loop.trips, k0_off22 k = blkOff (Ring.bk 32 k.val) 1 := by decide +kernel
theorem off23_eq : ∀ k : Fin k0_t1_loop.trips, k0_off23 k = cellOff (Ring.sl 3 k.val) 2 := by decide +kernel
theorem off24_eq : ∀ k : Fin k0_t1_loop.trips, k0_off24 k = partOff (Ring.sl 3 k.val) 2 := by decide +kernel
theorem off25_eq : ∀ k : Fin k0_t1_loop.trips, k0_off25 k = blkOff (Ring.bk 32 k.val) 2 := by decide +kernel
theorem off26_eq : ∀ k : Fin k0_t1_loop.trips, k0_off26 k = cellOff (Ring.sl 3 k.val) 3 := by decide +kernel
theorem off27_eq : ∀ k : Fin k0_t1_loop.trips, k0_off27 k = partOff (Ring.sl 3 k.val) 3 := by decide +kernel
theorem off28_eq : ∀ k : Fin k0_t1_loop.trips, k0_off28 k = blkOff (Ring.bk 32 k.val) 3 := by decide +kernel
-- the slot read and the rows stored
theorem off29_eq : ∀ k : Fin k0_t1_loop.trips, k0_off29 k = slotOff (Ring.sl 3 k.val) := by decide +kernel
theorem off30_eq : ∀ k : Fin k0_t1_loop.trips, k0_off30 k = outOff (Ring.bk 32 k.val) := by decide +kernel

instance (k : Fin k0_t1_loop.trips) : ClosedOff (k0_off29 k) := ⟨slotOff (Ring.sl 3 k.val), off29_eq k⟩
instance (k : Fin k0_t1_loop.trips) : ClosedOff (k0_off30 k) := ⟨outOff (Ring.bk 32 k.val), off30_eq k⟩

/-! ## The slices of the kernel's text are the names -/

theorem cell_congr {off : Fin 2 → Nat} {s : Fin 3} {q : Fin 4} (e : off = cellOff s q) (hh) :
    (cc0_scratch1.slice (Rect.unit (s := S3x4) off S1x1.size hh)).squeeze S_ squeezes_S1x1_S_ = cell s q :=
  congrArg (fun A : DmaSems sig S1x1 => A.squeeze S_ squeezes_S1x1_S_) (SemArray.slice_unit_congr _ e _ _)
theorem part_congr {off : Fin 4 → Nat} {s : Fin 3} {q : Fin 4} (e : off = partOff s q) (hh hs) :
    (bufM.slice (Rect.unit (s := S3x256x8x2048) off S1x64x8x2048.size hh) hs).squeeze S64x8x2048 squeezes_S1x64x8x2048_S64x8x2048 = part s q :=
  congrArg (fun M : Memref sig .tc .vmem S1x64x8x2048 .f32 => M.squeeze S64x8x2048 squeezes_S1x64x8x2048_S64x8x2048) (Memref.slice_unit_congr _ e _ _ _ _)
theorem blk_congr {off : Fin 4 → Nat} {b : Fin 32} {q : Fin 4} (e : off = blkOff b q) (hh hs) :
    (xM.slice (Rect.unit (s := S4x256x64x2048) off S1x64x8x2048.size hh) hs).squeeze S64x8x2048 squeezes_S1x64x8x2048_S64x8x2048 = blk b q :=
  congrArg (fun M : Memref sig .tc .hbm S1x64x8x2048 .f32 => M.squeeze S64x8x2048 squeezes_S1x64x8x2048_S64x8x2048) (Memref.slice_unit_congr _ e _ _ _ _)

/-! The fetches before the loop: steps 0 and 1, into slots 0 and 1, at literal places. -/

@[sl_canon] theorem cellL00 (hh) : (cc0_scratch1.slice (Rect.unit (s := S3x4) ![0, 0] S1x1.size hh)).squeeze S_ squeezes_S1x1_S_ = cell 0 0 := cell_congr (by decide) _
@[sl_canon] theorem partL00 (hh hs) : (bufM.slice (Rect.unit (s := S3x256x8x2048) ![0, 0, 0, 0] S1x64x8x2048.size hh) hs).squeeze S64x8x2048 squeezes_S1x64x8x2048_S64x8x2048 = part 0 0 := part_congr (by decide) _ _
@[sl_canon] theorem blkL00 (hh hs) : (xM.slice (Rect.unit (s := S4x256x64x2048) (k0_off1 0#32) S1x64x8x2048.size hh) hs).squeeze S64x8x2048 squeezes_S1x64x8x2048_S64x8x2048 = blk 0 0 := blk_congr (by decide +kernel) _ _
@[sl_canon] theorem cellL01 (hh) : (cc0_scratch1.slice (Rect.unit (s := S3x4) ![0, 1] S1x1.size hh)).squeeze S_ squeezes_S1x1_S_ = cell 0 1 := cell_congr (by decide) _
@[sl_canon] theorem partL01 (hh hs) : (bufM.slice (Rect.unit (s := S3x256x8x2048) ![0, 64, 0, 0] S1x64x8x2048.size hh) hs).squeeze S64x8x2048 squeezes_S1x64x8x2048_S64x8x2048 = part 0 1 := part_congr (by decide) _ _
@[sl_canon] theorem blkL01 (hh hs) : (xM.slice (Rect.unit (s := S4x256x64x2048) (k0_off2 0#32) S1x64x8x2048.size hh) hs).squeeze S64x8x2048 squeezes_S1x64x8x2048_S64x8x2048 = blk 0 1 := blk_congr (by decide +kernel) _ _
@[sl_canon] theorem cellL02 (hh) : (cc0_scratch1.slice (Rect.unit (s := S3x4) ![0, 2] S1x1.size hh)).squeeze S_ squeezes_S1x1_S_ = cell 0 2 := cell_congr (by decide) _
@[sl_canon] theorem partL02 (hh hs) : (bufM.slice (Rect.unit (s := S3x256x8x2048) ![0, 128, 0, 0] S1x64x8x2048.size hh) hs).squeeze S64x8x2048 squeezes_S1x64x8x2048_S64x8x2048 = part 0 2 := part_congr (by decide) _ _
@[sl_canon] theorem blkL02 (hh hs) : (xM.slice (Rect.unit (s := S4x256x64x2048) (k0_off3 0#32) S1x64x8x2048.size hh) hs).squeeze S64x8x2048 squeezes_S1x64x8x2048_S64x8x2048 = blk 0 2 := blk_congr (by decide +kernel) _ _
@[sl_canon] theorem cellL03 (hh) : (cc0_scratch1.slice (Rect.unit (s := S3x4) ![0, 3] S1x1.size hh)).squeeze S_ squeezes_S1x1_S_ = cell 0 3 := cell_congr (by decide) _
@[sl_canon] theorem partL03 (hh hs) : (bufM.slice (Rect.unit (s := S3x256x8x2048) ![0, 192, 0, 0] S1x64x8x2048.size hh) hs).squeeze S64x8x2048 squeezes_S1x64x8x2048_S64x8x2048 = part 0 3 := part_congr (by decide) _ _
@[sl_canon] theorem blkL03 (hh hs) : (xM.slice (Rect.unit (s := S4x256x64x2048) (k0_off4 0#32) S1x64x8x2048.size hh) hs).squeeze S64x8x2048 squeezes_S1x64x8x2048_S64x8x2048 = blk 0 3 := blk_congr (by decide +kernel) _ _
@[sl_canon] theorem cellL10 (hh) : (cc0_scratch1.slice (Rect.unit (s := S3x4) ![1, 0] S1x1.size hh)).squeeze S_ squeezes_S1x1_S_ = cell 1 0 := cell_congr (by decide) _
@[sl_canon] theorem partL10 (hh hs) : (bufM.slice (Rect.unit (s := S3x256x8x2048) ![1, 0, 0, 0] S1x64x8x2048.size hh) hs).squeeze S64x8x2048 squeezes_S1x64x8x2048_S64x8x2048 = part 1 0 := part_congr (by decide) _ _
@[sl_canon] theorem blkL10 (hh hs) : (xM.slice (Rect.unit (s := S4x256x64x2048) (k0_off1 1#32) S1x64x8x2048.size hh) hs).squeeze S64x8x2048 squeezes_S1x64x8x2048_S64x8x2048 = blk 1 0 := blk_congr (by decide +kernel) _ _
@[sl_canon] theorem cellL11 (hh) : (cc0_scratch1.slice (Rect.unit (s := S3x4) ![1, 1] S1x1.size hh)).squeeze S_ squeezes_S1x1_S_ = cell 1 1 := cell_congr (by decide) _
@[sl_canon] theorem partL11 (hh hs) : (bufM.slice (Rect.unit (s := S3x256x8x2048) ![1, 64, 0, 0] S1x64x8x2048.size hh) hs).squeeze S64x8x2048 squeezes_S1x64x8x2048_S64x8x2048 = part 1 1 := part_congr (by decide) _ _
@[sl_canon] theorem blkL11 (hh hs) : (xM.slice (Rect.unit (s := S4x256x64x2048) (k0_off2 1#32) S1x64x8x2048.size hh) hs).squeeze S64x8x2048 squeezes_S1x64x8x2048_S64x8x2048 = blk 1 1 := blk_congr (by decide +kernel) _ _
@[sl_canon] theorem cellL12 (hh) : (cc0_scratch1.slice (Rect.unit (s := S3x4) ![1, 2] S1x1.size hh)).squeeze S_ squeezes_S1x1_S_ = cell 1 2 := cell_congr (by decide) _
@[sl_canon] theorem partL12 (hh hs) : (bufM.slice (Rect.unit (s := S3x256x8x2048) ![1, 128, 0, 0] S1x64x8x2048.size hh) hs).squeeze S64x8x2048 squeezes_S1x64x8x2048_S64x8x2048 = part 1 2 := part_congr (by decide) _ _
@[sl_canon] theorem blkL12 (hh hs) : (xM.slice (Rect.unit (s := S4x256x64x2048) (k0_off3 1#32) S1x64x8x2048.size hh) hs).squeeze S64x8x2048 squeezes_S1x64x8x2048_S64x8x2048 = blk 1 2 := blk_congr (by decide +kernel) _ _
@[sl_canon] theorem cellL13 (hh) : (cc0_scratch1.slice (Rect.unit (s := S3x4) ![1, 3] S1x1.size hh)).squeeze S_ squeezes_S1x1_S_ = cell 1 3 := cell_congr (by decide) _
@[sl_canon] theorem partL13 (hh hs) : (bufM.slice (Rect.unit (s := S3x256x8x2048) ![1, 192, 0, 0] S1x64x8x2048.size hh) hs).squeeze S64x8x2048 squeezes_S1x64x8x2048_S64x8x2048 = part 1 3 := part_congr (by decide) _ _
@[sl_canon] theorem blkL13 (hh hs) : (xM.slice (Rect.unit (s := S4x256x64x2048) (k0_off4 1#32) S1x64x8x2048.size hh) hs).squeeze S64x8x2048 squeezes_S1x64x8x2048_S64x8x2048 = blk 1 3 := blk_congr (by decide +kernel) _ _

/-! The fetch of step `k + 2` at trip `k`. -/

@[sl_canon] theorem cellI0 (k : Fin k0_t1_loop.trips) (hk : k.val + 2 < 32) (hh) :
    (cc0_scratch1.slice (Rect.unit (s := S3x4) (k0_off5 k) S1x1.size hh)).squeeze S_ squeezes_S1x1_S_ = cell (Ring.sl 3 (k.val + 2)) 0 := cell_congr (off5_eq k hk) _
@[sl_canon] theorem partI0 (k : Fin k0_t1_loop.trips) (hk : k.val + 2 < 32) (hh hs) :
    (bufM.slice (Rect.unit (s := S3x256x8x2048) (k0_off6 k) S1x64x8x2048.size hh) hs).squeeze S64x8x2048 squeezes_S1x64x8x2048_S64x8x2048 = part (Ring.sl 3 (k.val + 2)) 0 := part_congr (off6_eq k hk) _ _
@[sl_canon] theorem blkI0 (k : Fin k0_t1_loop.trips) (hk : k.val + 2 < 32) (hh hs) :
    (xM.slice (Rect.unit (s := S4x256x64x2048) (k0_off7 k) S1x64x8x2048.size hh) hs).squeeze S64x8x2048 squeezes_S1x64x8x2048_S64x8x2048 = blk (Ring.bk 32 (k.val + 2)) 0 := blk_congr (off7_eq k hk) _ _
@[sl_canon] theorem cellI1 (k : Fin k0_t1_loop.trips) (hk : k.val + 2 < 32) (hh) :
    (cc0_scratch1.slice (Rect.unit (s := S3x4) (k0_off8 k) S1x1.size hh)).squeeze S_ squeezes_S1x1_S_ = cell (Ring.sl 3 (k.val + 2)) 1 := cell_congr (off8_eq k hk) _
@[sl_canon] theorem partI1 (k : Fin k0_t1_loop.trips) (hk : k.val + 2 < 32) (hh hs) :
    (bufM.slice (Rect.unit (s := S3x256x8x2048) (k0_off9 k) S1x64x8x2048.size hh) hs).squeeze S64x8x2048 squeezes_S1x64x8x2048_S64x8x2048 = part (Ring.sl 3 (k.val + 2)) 1 := part_congr (off9_eq k hk) _ _
@[sl_canon] theorem blkI1 (k : Fin k0_t1_loop.trips) (hk : k.val + 2 < 32) (hh hs) :
    (xM.slice (Rect.unit (s := S4x256x64x2048) (k0_off10 k) S1x64x8x2048.size hh) hs).squeeze S64x8x2048 squeezes_S1x64x8x2048_S64x8x2048 = blk (Ring.bk 32 (k.val + 2)) 1 := blk_congr (off10_eq k hk) _ _
@[sl_canon] theorem cellI2 (k : Fin k0_t1_loop.trips) (hk : k.val + 2 < 32) (hh) :
    (cc0_scratch1.slice (Rect.unit (s := S3x4) (k0_off11 k) S1x1.size hh)).squeeze S_ squeezes_S1x1_S_ = cell (Ring.sl 3 (k.val + 2)) 2 := cell_congr (off11_eq k hk) _
@[sl_canon] theorem partI2 (k : Fin k0_t1_loop.trips) (hk : k.val + 2 < 32) (hh hs) :
    (bufM.slice (Rect.unit (s := S3x256x8x2048) (k0_off12 k) S1x64x8x2048.size hh) hs).squeeze S64x8x2048 squeezes_S1x64x8x2048_S64x8x2048 = part (Ring.sl 3 (k.val + 2)) 2 := part_congr (off12_eq k hk) _ _
@[sl_canon] theorem blkI2 (k : Fin k0_t1_loop.trips) (hk : k.val + 2 < 32) (hh hs) :
    (xM.slice (Rect.unit (s := S4x256x64x2048) (k0_off13 k) S1x64x8x2048.size hh) hs).squeeze S64x8x2048 squeezes_S1x64x8x2048_S64x8x2048 = blk (Ring.bk 32 (k.val + 2)) 2 := blk_congr (off13_eq k hk) _ _
@[sl_canon] theorem cellI3 (k : Fin k0_t1_loop.trips) (hk : k.val + 2 < 32) (hh) :
    (cc0_scratch1.slice (Rect.unit (s := S3x4) (k0_off14 k) S1x1.size hh)).squeeze S_ squeezes_S1x1_S_ = cell (Ring.sl 3 (k.val + 2)) 3 := cell_congr (off14_eq k hk) _
@[sl_canon] theorem partI3 (k : Fin k0_t1_loop.trips) (hk : k.val + 2 < 32) (hh hs) :
    (bufM.slice (Rect.unit (s := S3x256x8x2048) (k0_off15 k) S1x64x8x2048.size hh) hs).squeeze S64x8x2048 squeezes_S1x64x8x2048_S64x8x2048 = part (Ring.sl 3 (k.val + 2)) 3 := part_congr (off15_eq k hk) _ _
@[sl_canon] theorem blkI3 (k : Fin k0_t1_loop.trips) (hk : k.val + 2 < 32) (hh hs) :
    (xM.slice (Rect.unit (s := S4x256x64x2048) (k0_off16 k) S1x64x8x2048.size hh) hs).squeeze S64x8x2048 squeezes_S1x64x8x2048_S64x8x2048 = blk (Ring.bk 32 (k.val + 2)) 3 := blk_congr (off16_eq k hk) _ _

/-! The wait for step `k` at trip `k`. -/

@[sl_canon] theorem cellK0 (k : Fin k0_t1_loop.trips) (hh) :
    (cc0_scratch1.slice (Rect.unit (s := S3x4) (k0_off17 k) S1x1.size hh)).squeeze S_ squeezes_S1x1_S_ = cell (Ring.sl 3 k.val) 0 := cell_congr (off17_eq k) _
@[sl_canon] theorem partK0 (k : Fin k0_t1_loop.trips) (hh hs) :
    (bufM.slice (Rect.unit (s := S3x256x8x2048) (k0_off18 k) S1x64x8x2048.size hh) hs).squeeze S64x8x2048 squeezes_S1x64x8x2048_S64x8x2048 = part (Ring.sl 3 k.val) 0 := part_congr (off18_eq k) _ _
@[sl_canon] theorem blkK0 (k : Fin k0_t1_loop.trips) (hh hs) :
    (xM.slice (Rect.unit (s := S4x256x64x2048) (k0_off19 k) S1x64x8x2048.size hh) hs).squeeze S64x8x2048 squeezes_S1x64x8x2048_S64x8x2048 = blk (Ring.bk 32 k.val) 0 := blk_congr (off19_eq k) _ _
@[sl_canon] theorem cellK1 (k : Fin k0_t1_loop.trips) (hh) :
    (cc0_scratch1.slice (Rect.unit (s := S3x4) (k0_off20 k) S1x1.size hh)).squeeze S_ squeezes_S1x1_S_ = cell (Ring.sl 3 k.val) 1 := cell_congr (off20_eq k) _
@[sl_canon] theorem partK1 (k : Fin k0_t1_loop.trips) (hh hs) :
    (bufM.slice (Rect.unit (s := S3x256x8x2048) (k0_off21 k) S1x64x8x2048.size hh) hs).squeeze S64x8x2048 squeezes_S1x64x8x2048_S64x8x2048 = part (Ring.sl 3 k.val) 1 := part_congr (off21_eq k) _ _
@[sl_canon] theorem blkK1 (k : Fin k0_t1_loop.trips) (hh hs) :
    (xM.slice (Rect.unit (s := S4x256x64x2048) (k0_off22 k) S1x64x8x2048.size hh) hs).squeeze S64x8x2048 squeezes_S1x64x8x2048_S64x8x2048 = blk (Ring.bk 32 k.val) 1 := blk_congr (off22_eq k) _ _
@[sl_canon] theorem cellK2 (k : Fin k0_t1_loop.trips) (hh) :
    (cc0_scratch1.slice (Rect.unit (s := S3x4) (k0_off23 k) S1x1.size hh)).squeeze S_ squeezes_S1x1_S_ = cell (Ring.sl 3 k.val) 2 := cell_congr (off23_eq k) _
@[sl_canon] theorem partK2 (k : Fin k0_t1_loop.trips) (hh hs) :
    (bufM.slice (Rect.unit (s := S3x256x8x2048) (k0_off24 k) S1x64x8x2048.size hh) hs).squeeze S64x8x2048 squeezes_S1x64x8x2048_S64x8x2048 = part (Ring.sl 3 k.val) 2 := part_congr (off24_eq k) _ _
@[sl_canon] theorem blkK2 (k : Fin k0_t1_loop.trips) (hh hs) :
    (xM.slice (Rect.unit (s := S4x256x64x2048) (k0_off25 k) S1x64x8x2048.size hh) hs).squeeze S64x8x2048 squeezes_S1x64x8x2048_S64x8x2048 = blk (Ring.bk 32 k.val) 2 := blk_congr (off25_eq k) _ _
@[sl_canon] theorem cellK3 (k : Fin k0_t1_loop.trips) (hh) :
    (cc0_scratch1.slice (Rect.unit (s := S3x4) (k0_off26 k) S1x1.size hh)).squeeze S_ squeezes_S1x1_S_ = cell (Ring.sl 3 k.val) 3 := cell_congr (off26_eq k) _
@[sl_canon] theorem partK3 (k : Fin k0_t1_loop.trips) (hh hs) :
    (bufM.slice (Rect.unit (s := S3x256x8x2048) (k0_off27 k) S1x64x8x2048.size hh) hs).squeeze S64x8x2048 squeezes_S1x64x8x2048_S64x8x2048 = part (Ring.sl 3 k.val) 3 := part_congr (off27_eq k) _ _
@[sl_canon] theorem blkK3 (k : Fin k0_t1_loop.trips) (hh hs) :
    (xM.slice (Rect.unit (s := S4x256x64x2048) (k0_off28 k) S1x64x8x2048.size hh) hs).squeeze S64x8x2048 squeezes_S1x64x8x2048_S64x8x2048 = blk (Ring.bk 32 k.val) 3 := blk_congr (off28_eq k) _ _

end Cert.Proof.Pool

end
-- ==== Proof.Pieces.lean ====
/-
  What the ring holds between trips, and the values it carries.

  `slotF b` is a slot holding step `b`: a function on the ring's indices that reads `x`, whatever slot it is looked at in.
  A transfer of part `q` of step `b` into slot `s` lands exactly that on the part's elements (`landed_eq`), so a slot in
  flight (`flightP`) promises it. `payK b` is the kernel's arithmetic on one step, as the body computes it from the slot.
-/
module

public import proofs.«01_k».proof.Proof.Names

@[expose] public section

noncomputable section

namespace Cert.Proof.Pool

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's, beside the counters the kernel's own transfers ride on -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

theorem entails_of_eq {P Q : sProp 𝕄} (e : P = Q) : P ⊢ Q := e ▸ .rfl

/-! ## Step `b` in a slot -/

/-- The index of `x` that the ring's index `y` holds when its slot holds step `b`. -/
def srcIdx (b : Fin 32) (y : S3x256x8x2048.Idx) : S4x256x64x2048.Idx :=
  fun a => ⟨(![b.val / 8, (y 1).val, 8 * (b.val % 8) + (y 2).val, (y 3).val] : Fin 4 → ℕ) a, by
    have := b.isLt
    have h1 : (y 1).val < 256 := (y 1).isLt
    have h2 : (y 2).val < 8 := (y 2).isLt
    have h3 : (y 3).val < 2048 := (y 3).isLt
    fin_cases a
    · show b.val / 8 < 4; omega
    · show (y 1).val < 256; omega
    · show 8 * (b.val % 8) + (y 2).val < 64; omega
    · show (y 3).val < 2048; omega⟩

/-- A part's element of a slot holds the same part's element of the step. -/
theorem srcIdx_part (s : Fin 3) (b : Fin 32) (q : Fin 4) (e : S1x64x8x2048.Idx) :
    srcIdx b ((partR s q).emb e) = (blkR b q).emb e := by
  have h0 : (e 0).val < 1 := (e 0).isLt
  funext a
  apply Fin.ext
  fin_cases a
  · show b.val / 8 = b.val / 8 + 1 * (e 0).val; omega
  · show 64 * q.val + 1 * (e 1).val = 64 * q.val + 1 * (e 1).val; rfl
  · show 8 * (b.val % 8) + (0 + 1 * (e 2).val) = 8 * (b.val % 8) + 1 * (e 2).val; omega
  · show 0 + 1 * (e 3).val = 0 + 1 * (e 3).val; rfl

section Pieces
variable (c : Dev nD) (XA : Buf (Elt F) (xM.view.loc (c : Thread nD τ)))

/-- The ring's contents with step `b` in every slot. -/
def slotF (b : Fin 32) : Buf (Elt F) (bufM.view.loc (c : Thread nD τ)) := fun y => XA (srcIdx b y)

abbrev cellP (s : Fin 3) (q : Fin 4) : sProp 𝕄 := semVal ((c : Thread nD τ), SemLoc.dma (cell s q).sem) 0
abbrev partP (s : Fin 3) (q : Fin 4) (f : Buf (Elt F) ((part s q).view.loc (c : Thread nD τ))) : sProp 𝕄 :=
  (part s q).view.loc (c : Thread nD τ) ↦[(part s q).view.set]{fullShare} f
/-- Part `q` of step `b` HOME: held on its elements at `x`'s contents. -/
abbrev homeP (b : Fin 32) (q : Fin 4) : sProp 𝕄 := (blk b q).view.loc (c : Thread nD τ) ↦[(blk b q).view.set]{fullShare} XA
/-- A part's transfer moves 131072 units on its cell. -/
abbrev NN : ℕ := 131072
/-- Part `q` of slot `s` IN FLIGHT with step `b`. -/
abbrev flightP (s : Fin 3) (q : Fin 4) (b : Fin 32) : sProp 𝕄 :=
  Transfers.Flight countersEmb (c : Thread nD τ) (SemLoc.dma (cell s q).sem) () NN iprop(partP c s q (slotF c XA b) ∗ homeP c XA b q)

/-- Part `q` of step `b` as a slot's payload. -/
abbrev payload (b : Fin 32) (q : Fin 4) : S64x8x2048.Idx → Elt F .f32 := ReadAs.same.apply ((blk b q).view.read (Elt F) XA)

/-- A squeezed part's element, in the part with its leading axis of one. -/
def unsq (x : S64x8x2048.Idx) : S1x64x8x2048.Idx := Shape.reshapeEquiv (Shape.Squeezes.numel_eq squeezes_S1x64x8x2048_S64x8x2048) x
theorem part_emb (s : Fin 3) (q : Fin 4) (x : S64x8x2048.Idx) : (part s q).view.emb x = (partR s q).emb (unsq x) := rfl
theorem blk_emb (b : Fin 32) (q : Fin 4) (x : S64x8x2048.Idx) : (blk b q).view.emb x = (blkR b q).emb (unsq x) := rfl
theorem part_read (s : Fin 3) (q : Fin 4) (f : Buf (Elt F) ((part s q).view.loc (c : Thread nD τ))) (x : S64x8x2048.Idx) :
    (part s q).view.read (Elt F) f x = f ((part s q).view.emb x) := rfl
theorem payload_apply (b : Fin 32) (q : Fin 4) (x : S64x8x2048.Idx) : payload c XA b q x = XA ((blkR b q).emb (unsq x)) := rfl
theorem slotF_part (s : Fin 3) (b : Fin 32) (q : Fin 4) (x : S64x8x2048.Idx) :
    slotF c XA b ((part s q).view.emb x) = payload c XA b q x := by
  rw [payload_apply, part_emb, ← srcIdx_part s b q]; rfl

/-- What a part's transfer lands is the step, whatever the part held before. -/
theorem landed_eq (s : Fin 3) (b : Fin 32) (q : Fin 4) (f : Buf (Elt F) ((part s q).view.loc (c : Thread nD τ)))
    (L : List (View.Piece (Elt F) S64x8x2048 .f32)) :
    partP c s q ((part s q).view.writes (Elt F) f (⟨Rect.whole S64x8x2048, payload c XA b q⟩ :: L)) = partP c s q (slotF c XA b) := by
  apply pointsTo_congr
  intro i hi
  obtain ⟨x, -, rfl⟩ := Finset.mem_map.mp hi
  have h := View.read_writes_cons_emb (part s q).view f (Rect.whole S64x8x2048) (payload c XA b q) L x
  rw [Rect.emb_whole_apply, part_read c] at h
  exact h.trans (slotF_part c XA s b q x).symm

end Pieces

/-! ## The kernel's arithmetic on one step -/

/-- Step `b` as the body loads it. -/
def slotV (XA : S4x256x64x2048.Idx → Elt F .f32) (b : Fin 32) : Vec F S1x256x8x2048 .f32 := fun y => XA (srcIdx b ((slotR 0).emb y))
/-- What the body stores for step `b`, from the two weight vectors it loaded and the step. -/
def payK (v1 : FVec F S256x1x1 .f32) (v3 : FVec F S1x256 .f32) (XA : S4x256x64x2048.Idx → Elt F .f32) (b : Fin 32) : FVec F S1x8x256 .f32 :=
  k0_pay1 v3 (k0_pay2 (slotV XA b)) (k0_pay3 (slotV XA b)) (k0_pay4 v1 (slotV XA b)) (k0_pay5 v1 (slotV XA b))

/-! ## A slot is its four parts -/

theorem part_set (s : Fin 3) (q : Fin 4) : (part s q).view.set = (partR s q).set := (View.set_reshape _ _).trans (View.set_slice_whole _ _)
theorem slotW_set (s : Fin 3) : (slotW s).view.set = (slotR s).set := View.set_slice_whole _ _
theorem blk_set (b : Fin 32) (q : Fin 4) : (blk b q).view.set = (blkR b q).set := (View.set_reshape _ _).trans (View.set_slice_whole _ _)

theorem mem_partR (s : Fin 3) (q : Fin 4) (y : S3x256x8x2048.Idx) :
    y ∈ (partR s q).set ↔ (y 0).val = s.val ∧ (y 1).val / 64 = q.val := by
  rw [Rect.mem_set_unit]
  have h2 : (y 2).val < 8 := (y 2).isLt
  have h3 : (y 3).val < 2048 := (y 3).isLt
  constructor
  · intro H
    have a0 : s.val ≤ (y 0).val ∧ (y 0).val < s.val + 1 := H 0
    have a1 : 64 * q.val ≤ (y 1).val ∧ (y 1).val < 64 * q.val + 64 := H 1
    omega
  · rintro ⟨e0, e1⟩ i; fin_cases i
    · show s.val ≤ (y 0).val ∧ (y 0).val < s.val + 1; omega
    · show 64 * q.val ≤ (y 1).val ∧ (y 1).val < 64 * q.val + 64; omega
    · show 0 ≤ (y 2).val ∧ (y 2).val < 0 + 8; omega
    · show 0 ≤ (y 3).val ∧ (y 3).val < 0 + 2048; omega
theorem mem_slotR (s : Fin 3) (y : S3x256x8x2048.Idx) : y ∈ (slotR s).set ↔ (y 0).val = s.val := by
  rw [Rect.mem_set_unit]
  have h1 : (y 1).val < 256 := (y 1).isLt
  have h2 : (y 2).val < 8 := (y 2).isLt
  have h3 : (y 3).val < 2048 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 8; omega
    · show 0 ≤ (y 3).val ∧ (y 3).val < 0 + 2048; omega

theorem bigSep_fin4 {M : Type} [URA M] (Φ : Fin 4 → sProp M) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ
theorem bigSep_fin3 {M : Type} [URA M] (Φ : Fin 3 → sProp M) : bigSep Finset.univ Φ = iprop(Φ 0 ∗ Φ 1 ∗ Φ 2) :=
  bigSep_univ_eq_bigSepL [(0 : Fin 3), (1 : Fin 3), (2 : Fin 3)] (by decide) (by decide) Φ

theorem partR_disjoint (s : Fin 3) : ∀ q q' : Fin 4, q ≠ q' → Disjoint (partR s q).set (partR s q').set := by
  intro q q' hne; rw [Finset.disjoint_left]; intro y hy hy'; rw [mem_partR] at hy hy'
  exact hne (Fin.ext (hy.2.symm.trans hy'.2))
theorem partR_cover (s : Fin 3) : (Finset.univ : Finset (Fin 4)).biUnion (fun q => (partR s q).set) = (slotR s).set := by
  ext y
  have h1 : (y 1).val < 256 := (y 1).isLt
  simp only [Finset.mem_biUnion, Finset.mem_univ, true_and, mem_partR, mem_slotR]
  exact ⟨fun ⟨_, h, _⟩ => h, fun h => ⟨⟨(y 1).val / 64, by omega⟩, h, rfl⟩⟩

section Slot
variable (c : Dev nD) (XA : Buf (Elt F) (xM.view.loc (c : Thread nD τ)))

/-- Slot `s` whole, at contents `f`. -/
abbrev slotP (s : Fin 3) (f : Buf (Elt F) ((slotW s).view.loc (c : Thread nD τ))) : sProp 𝕄 :=
  (slotW s).view.loc (c : Thread nD τ) ↦[(slotW s).view.set]{fullShare} f

/-- A slot whole is its four parts. -/
theorem slot_parts (s : Fin 3) (f : Buf (Elt F) (bufM.view.loc (c : Thread nD τ))) :
    slotP c s f = iprop(partP c s 0 f ∗ partP c s 1 f ∗ partP c s 2 f ∗ partP c s 3 f) := by
  have e : (slotP c s f : sProp 𝕄) = ((c : Thread nD τ).loc cc0_scratch0 ↦[(slotR s).set]{fullShare} f) :=
    congrArg (fun S => ((c : Thread nD τ).loc cc0_scratch0 ↦[S]{fullShare} f : sProp 𝕄)) (slotW_set s)
  have e' (q : Fin 4) : (partP c s q f : sProp 𝕄) = ((c : Thread nD τ).loc cc0_scratch0 ↦[(partR s q).set]{fullShare} f) :=
    congrArg (fun S => ((c : Thread nD τ).loc cc0_scratch0 ↦[S]{fullShare} f : sProp 𝕄)) (part_set s q)
  rw [e, e', e', e', e', Ring.pointsTo_sub_blocks (ℓ := (c : Thread nD τ).loc cc0_scratch0) (fun q => (partR s q).set) (partR_disjoint s) _ (partR_cover s),
    bigSep_fin4]

/-! ## The ring between trips -/

/-- Slot `s` free: its four parts held at anything, its four cells at zero. -/
def freeS (s : Fin 3) : sProp 𝕄 :=
  iprop((∃ f, partP c s 0 f) ∗ (∃ f, partP c s 1 f) ∗ (∃ f, partP c s 2 f) ∗ (∃ f, partP c s 3 f)
    ∗ cellP c s 0 ∗ cellP c s 1 ∗ cellP c s 2 ∗ cellP c s 3)
/-- Slot `s` in flight with step `b`, its four parts. -/
def flightS (s : Fin 3) (b : Fin 32) : sProp 𝕄 :=
  iprop(flightP c XA s 0 b ∗ flightP c XA s 1 b ∗ flightP c XA s 2 b ∗ flightP c XA s 3 b)
/-- Step `b` home, its four parts. -/
def homeS (b : Fin 32) : sProp 𝕄 := iprop(homeP c XA b 0 ∗ homeP c XA b 1 ∗ homeP c XA b 2 ∗ homeP c XA b 3)

/-- What step `j`'s slot holds while the step is ahead: its flight, or nothing when there is no step `j`. -/
def roleS (j : ℕ) : sProp 𝕄 := if j < 32 then flightS c XA (Ring.sl 3 j) (Ring.bk 32 j) else freeS c (Ring.sl 3 j)

theorem roleS_lt {j : ℕ} (h : j < 32) : roleS c XA j = flightS c XA (Ring.sl 3 j) (Ring.bk 32 j) := if_pos h
theorem roleS_ge {j : ℕ} (h : ¬ j < 32) : roleS c XA j = freeS c (Ring.sl 3 j) := if_neg h

/-- Trip `k`'s homes: step `k + 2` (about to go out) beside the rest. -/
theorem homes_here (k : ℕ) (hk : k + 2 < 32) :
    bigSep (Ring.homeSet 2 k) (homeS c XA) = iprop(homeS c XA (Ring.bk 32 (k + 2)) ∗ bigSep ((Ring.homeSet 2 k).erase (Ring.bk 32 (k + 2))) (homeS c XA)) := by
  conv_lhs => rw [Ring.homeSet_out 2 k hk, bigSep_insert (Ring.bkL_not_mem_erase 2 k)]
  rfl
/-- Trip `k + 1`'s homes: step `k` (just back) beside that rest. -/
theorem homes_next (k : ℕ) (hk : k + 2 < 32) :
    bigSep (Ring.homeSet 2 (k + 1)) (homeS c XA) = iprop(homeS c XA (Ring.bk 32 k) ∗ bigSep ((Ring.homeSet 2 k).erase (Ring.bk 32 (k + 2))) (homeS c XA)) := by
  conv_lhs => rw [Ring.homeSet_succ 2 k hk, bigSep_insert (Ring.bk_not_mem_erase 2 k (by omega) (by decide))]
  rfl
/-- The same when no step goes out. -/
theorem homes_tail (k : ℕ) (hk : k < 32) (h2 : ¬ k + 2 < 32) :
    bigSep (Ring.homeSet 2 (k + 1)) (homeS c XA) = iprop(homeS c XA (Ring.bk 32 k) ∗ bigSep (Ring.homeSet 2 k) (homeS c XA)) := by
  have e : Ring.homeSet (NB := 32) 2 (k + 1) = insert (Ring.bk 32 k) (Ring.homeSet 2 k) := by
    ext b
    have := b.isLt
    simp only [Finset.mem_insert, Ring.mem_homeSet, Fin.ext_iff, Ring.bk_val hk]; omega
  rw [e, bigSep_insert (by simp only [Ring.mem_homeSet, Ring.bk_val hk]; omega)]; rfl

end Slot

end Cert.Proof.Pool

end
-- ==== Proof.Trip.lean ====
/-
  One trip of the kernel's loop, and the loop's invariant.

  Before trip `k` the steps `k` and `k + 1` are in flight in their slots (or no such step exists), the third slot is free,
  every other step's part of `x` is home, and the result's buffer holds what the trips before `k` stored (`oAcc`).
-/
module

public import proofs.«01_k».proof.Proof.Pieces

@[expose] public section

set_option maxHeartbeats 800000

noncomputable section

namespace Cert.Proof.Pool

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Trip
variable (c : Dev nD) (XA : Buf (Elt F) (xM.view.loc (c : Thread nD τ)))
  (arg1 : Memref sig .tc .vmem S256x1x1 .f32) (harg1 : arg1.IsWhole)
  (arg2 : Memref sig .tc .vmem S1x256 .f32) (harg2 : arg2.IsWhole)
  (arg3 : Memref sig .tc .vmem S4x64x256 .f32) (harg3 : arg3.IsWhole)
  (v1 : FVec F S256x1x1 .f32) (v3 : FVec F S1x256 .f32)

/-- The result's buffer whole, at contents `f`. -/
abbrev oP (f : Buf (Elt F) (arg3.view.loc (c : Thread nD τ))) : sProp 𝕄 := arg3.view.loc (c : Thread nD τ) ↦[arg3.view.set]{fullShare} f

/-- A transfer just started promises the step in its slot. -/
theorem flight_landed (s : Fin 3) (b : Fin 32) (q : Fin 4) (f : Buf (Elt F) ((part s q).view.loc (c : Thread nD τ)))
    (L : List (View.Piece (Elt F) S64x8x2048 .f32)) :
    (Transfers.Flight countersEmb (c : Thread nD τ) (SemLoc.dma (cell s q).sem) () NN
      iprop(partP c s q ((part s q).view.writes (Elt F) f (⟨Rect.whole S64x8x2048, payload c XA b q⟩ :: L)) ∗ homeP c XA b q) : sProp 𝕄)
    = flightP c XA s q b := by
  rw [landed_eq]

/-- The resources before trip `k`, the result's buffer at `fo`. -/
def resAt (k : ℕ) (fo : Buf (Elt F) (arg3.view.loc (c : Thread nD τ))) : sProp 𝕄 :=
  iprop(oP c arg3 fo ∗ (∃ W, owes (c : Thread nD τ) 0 W)
    ∗ bigSep (Ring.homeSet 2 k) (homeS c XA) ∗ roleS c XA k ∗ roleS c XA (k + 1) ∗ freeS c (Ring.sl 3 (k + 2)))

abbrev tripG (k : Fin k0_t1_loop.trips) : Prog (TpuEff nD τ sig (Elt F) Λ₀ .tc) Unit :=
  k0_t1_body (F := F) xM (Memref.isWhole_whole _) arg1 harg1 arg2 harg2 arg3 harg3 bufM (Memref.isWhole_whole _) cc0_scratch1 v1 v3 k ()

/-- The slot three steps on is the same slot. -/
theorem sl_three (k : ℕ) : Ring.sl 3 (k + 1 + 2) = Ring.sl 3 k := by
  apply Fin.ext; show (k + 1 + 2) % 3 = k % 3; omega

/-- The slot the kernel just read is free again. -/
theorem freed (s : Fin 3) (f : Buf (Elt F) (bufM.view.loc (c : Thread nD τ))) :
    iprop(slotP c s f ∗ cellP c s 0 ∗ cellP c s 1 ∗ cellP c s 2 ∗ cellP c s 3) ⊢ (freeS c s : sProp 𝕄) := by
  rw [slot_parts]; unfold freeS
  iintro ⟨⟨H0, H1, H2, H3⟩, HC⟩
  isplitl [H0]; · iexists f; iexact H0
  isplitl [H1]; · iexists f; iexact H1
  isplitl [H2]; · iexists f; iexact H2
  isplitl [H3]; · iexists f; iexact H3
  iexact HC

/-- Trip `k`'s store. -/
abbrev outP (k : Fin k0_t1_loop.trips) : View.Piece (Elt F) S4x64x256 .f32 :=
  ⟨Rect.unit (s := S4x64x256) (k0_off30 k) S1x8x256.size (k0_off30_inb k), payK v1 v3 XA (Ring.bk 32 k)⟩

/-- A trip that fetches ahead. -/
theorem trip_ahead (k : Fin k0_t1_loop.trips) (hk : k.val + 2 < 32) (fo : Buf (Elt F) (arg3.view.loc (c : Thread nD τ))) :
    resAt c XA arg3 k fo ⊢ wp frame (wpE (defs₀ (F := F)) 𝒱₀ (c : Thread nD τ) none) Set.univ (tripG arg1 harg1 arg2 harg2 arg3 harg3 v1 v3 k)
      (fun _ => resAt c XA arg3 (k.val + 1) (arg3.view.writes (Elt F) fo [outP c XA v1 v3 k])) := by
  have hc : k0_cond1 k = 1#1 := (cond_iff k).mpr hk
  unfold resAt
  rw [homes_here c XA k.val hk, homes_next c XA k.val hk, roleS_lt c XA (by omega : k.val < 32), roleS_lt c XA (by omega : k.val + 1 + 1 < 32), sl_three]
  simp only [homeS]
  unfold flightS
  conv_lhs => unfold freeS
  iintro ⟨HO, ⟨%W, HW⟩, ⟨⟨Hh0, Hh1, Hh2, Hh3⟩, Hrest⟩, ⟨HF0, HF1, HF2, HF3⟩, Hnext, ⟨%f0, Hp0⟩, ⟨%f1, Hp1⟩, ⟨%f2, Hp2⟩, ⟨%f3, Hp3⟩, Hc0, Hc1, Hc2, Hc3⟩
  dsimp only [tripG]
  sl_unfold [k0_t1_body]
  sl_exec
  ihave Hs := (entails_of_eq (slot_parts c (Ring.sl 3 k.val) (slotF c XA (Ring.bk 32 k.val))).symm) $$ [HF0_dst HF1_dst HF2_dst HF3_dst]
  · isplitl [HF0_dst]; · iexact HF0_dst
    isplitl [HF1_dst]; · iexact HF1_dst
    isplitl [HF2_dst]; · iexact HF2_dst
    iexact HF3_dst
  sl_exec
  sl_step
  isplitl [HO]; · iexact HO
  isplitl [HW]; · iexists _; iexact HW
  isplitl [HF0_src HF1_src HF2_src HF3_src Hrest]
  · isplitl [HF0_src HF1_src HF2_src HF3_src]
    · isplitl [HF0_src]; · iexact HF0_src
      isplitl [HF1_src]; · iexact HF1_src
      isplitl [HF2_src]; · iexact HF2_src
      iexact HF3_src
    iexact Hrest
  isplitl [Hnext]; · iexact Hnext
  isplitl [Hc0 Hc1 Hc2 Hc3]
  · isplitl [Hc0]; · iapply (entails_of_eq (flight_landed c XA (Ring.sl 3 (k.val + 2)) (Ring.bk 32 (k.val + 2)) 0 f0 [])); iexact Hc0
    isplitl [Hc1]; · iapply (entails_of_eq (flight_landed c XA (Ring.sl 3 (k.val + 2)) (Ring.bk 32 (k.val + 2)) 1 f1 [])); iexact Hc1
    isplitl [Hc2]; · iapply (entails_of_eq (flight_landed c XA (Ring.sl 3 (k.val + 2)) (Ring.bk 32 (k.val + 2)) 2 f2 [])); iexact Hc2
    iapply (entails_of_eq (flight_landed c XA (Ring.sl 3 (k.val + 2)) (Ring.bk 32 (k.val + 2)) 3 f3 [])); iexact Hc3
  iapply (freed c (Ring.sl 3 k.val) (slotF c XA (Ring.bk 32 k.val)))
  isplitl [Hs]; · iexact Hs
  isplitl [HF0]; · iexact HF0
  isplitl [HF1]; · iexact HF1
  isplitl [HF2]; · iexact HF2
  iexact HF3

/-- A trip with no step left to fetch. -/
theorem trip_tail (k : Fin k0_t1_loop.trips) (hk : ¬ k.val + 2 < 32) (fo : Buf (Elt F) (arg3.view.loc (c : Thread nD τ))) :
    resAt c XA arg3 k fo ⊢ wp frame (wpE (defs₀ (F := F)) 𝒱₀ (c : Thread nD τ) none) Set.univ (tripG arg1 harg1 arg2 harg2 arg3 harg3 v1 v3 k)
      (fun _ => resAt c XA arg3 (k.val + 1) (arg3.view.writes (Elt F) fo [outP c XA v1 v3 k])) := by
  have hc : ¬ k0_cond1 k = 1#1 := fun h => hk ((cond_iff k).mp h)
  have hlt : k.val < 32 := lt_of_lt_of_eq k.isLt trips_eq
  unfold resAt
  rw [homes_tail c XA k.val hlt hk, roleS_lt c XA hlt, roleS_ge c XA (by omega : ¬ k.val + 1 + 1 < 32), sl_three]
  unfold flightS
  conv_rhs => simp only [homeS]
  iintro ⟨HO, ⟨%W, HW⟩, Hrest, ⟨HF0, HF1, HF2, HF3⟩, Hnext, Hfree⟩
  dsimp only [tripG]
  sl_unfold [k0_t1_body]
  sl_exec
  ihave Hs := (entails_of_eq (slot_parts c (Ring.sl 3 k.val) (slotF c XA (Ring.bk 32 k.val))).symm) $$ [HF0_dst HF1_dst HF2_dst HF3_dst]
  · isplitl [HF0_dst]; · iexact HF0_dst
    isplitl [HF1_dst]; · iexact HF1_dst
    isplitl [HF2_dst]; · iexact HF2_dst
    iexact HF3_dst
  sl_exec
  sl_step
  isplitl [HO]; · iexact HO
  isplitl [HW]; · iexists _; iexact HW
  isplitl [HF0_src HF1_src HF2_src HF3_src Hrest]
  · isplitl [HF0_src HF1_src HF2_src HF3_src]
    · isplitl [HF0_src]; · iexact HF0_src
      isplitl [HF1_src]; · iexact HF1_src
      isplitl [HF2_src]; · iexact HF2_src
      iexact HF3_src
    iexact Hrest
  isplitl [Hnext]; · iexact Hnext
  isplitl [Hfree]; · iexact Hfree
  iapply (freed c (Ring.sl 3 k.val) (slotF c XA (Ring.bk 32 k.val)))
  isplitl [Hs]; · iexact Hs
  isplitl [HF0]; · iexact HF0
  isplitl [HF1]; · iexact HF1
  isplitl [HF2]; · iexact HF2
  iexact HF3

/-- The result's buffer before trip `k`: what it held at the loop's entry, each trip's store on top. -/
def oAcc (o0 : Buf (Elt F) (arg3.view.loc (c : Thread nD τ))) : ℕ → Buf (Elt F) (arg3.view.loc (c : Thread nD τ))
  | 0 => o0
  | k + 1 => if h : k < k0_t1_loop.trips then arg3.view.writes (Elt F) (oAcc o0 k) [outP c XA v1 v3 ⟨k, h⟩] else oAcc o0 k

set_option warn.classDefReducibility false in
/-- The loop's invariant. -/
@[sl_loop] def loopInv (o0 : Buf (Elt F) (arg3.view.loc (c : Thread nD τ))) :
    LoopInvTy_k0_t1 (F := F) Unit ℕ (UU nD τ) ℕ 𝒱₀ c none Set.univ xM (Memref.isWhole_whole _) arg1 harg1 arg2 harg2 arg3 harg3 bufM (Memref.isWhole_whole _) cc0_scratch1 v1 v3 where
  inv k _ := resAt c XA arg3 k (oAcc c XA arg3 v1 v3 o0 k)
  step k _ := by
    rw [oAcc, dif_pos k.isLt]
    by_cases hk : k.val + 2 < 32
    · exact trip_ahead c XA arg1 harg1 arg2 harg2 arg3 harg3 v1 v3 k hk _
    · exact trip_tail c XA arg1 harg1 arg2 harg2 arg3 harg3 v1 v3 k hk _

end Trip

end Cert.Proof.Pool

end
-- ==== Proof.Body.lean ====
/-
  The kernel's body, from its staging buffers, its ring and the parts of `x`: the two steps started ahead, then the loop.
-/
module

public import proofs.«01_k».proof.Proof.Trip

@[expose] public section

set_option maxHeartbeats 800000

noncomputable section

namespace Cert.Proof.Pool

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Body
variable (c : Dev nD) (XA : Buf (Elt F) (xM.view.loc (c : Thread nD τ)))
  (arg1 : Memref sig .tc .vmem S256x1x1 .f32) (harg1 : arg1.IsWhole)
  (arg2 : Memref sig .tc .vmem S1x256 .f32) (harg2 : arg2.IsWhole)
  (arg3 : Memref sig .tc .vmem S4x64x256 .f32) (harg3 : arg3.IsWhole)

abbrev bodyG : Prog (TpuEff nD τ sig (Elt F) Λ₀ .tc) PUnit :=
  cc0_axis_attn_pool (F := F) xM (Memref.isWhole_whole _) arg1 harg1 arg2 harg2 arg3 harg3 bufM (Memref.isWhole_whole _) cc0_scratch1

/-- What the body starts from: the weights' staging buffers at `g1` and `g2`, the result's at anything, every step home,
    the three slots free. -/
def PRE (g1 : Buf (Elt F) (arg1.view.loc (c : Thread nD τ))) (g2 : Buf (Elt F) (arg2.view.loc (c : Thread nD τ)))
    (gO : Buf (Elt F) (arg3.view.loc (c : Thread nD τ))) (W : Waits sig Unit) : sProp 𝕄 :=
  iprop((arg1.view.loc (c : Thread nD τ) ↦[arg1.view.set]{fullShare} g1) ∗ (arg2.view.loc (c : Thread nD τ) ↦[arg2.view.set]{fullShare} g2)
    ∗ oP c arg3 gO ∗ homeS c XA 0 ∗ homeS c XA 1 ∗ bigSep (Ring.homeSet 2 0) (homeS c XA)
    ∗ freeS c 0 ∗ freeS c 1 ∗ freeS c 2 ∗ owes (c : Thread nD τ) 0 W)

theorem homeS_eq (b : Fin 32) : homeS c XA b = iprop(homeP c XA b 0 ∗ homeP c XA b 1 ∗ homeP c XA b 2 ∗ homeP c XA b 3) := rfl
theorem freeS_eq (s : Fin 3) : (freeS c s : sProp 𝕄) = iprop((∃ f, partP c s 0 f) ∗ (∃ f, partP c s 1 f) ∗ (∃ f, partP c s 2 f) ∗ (∃ f, partP c s 3 f)
    ∗ cellP c s 0 ∗ cellP c s 1 ∗ cellP c s 2 ∗ cellP c s 3) := rfl

/-- A transfer of part `q` of step `b` into slot `s`, as it starts over the contents `f`. -/
abbrev startP (s : Fin 3) (q : Fin 4) (b : Fin 32) (f : Buf (Elt F) ((part s q).view.loc (c : Thread nD τ))) : sProp 𝕄 :=
  Transfers.Flight countersEmb (c : Thread nD τ) (SemLoc.dma (cell s q).sem) () NN
    iprop(partP c s q ((part s q).view.writes (Elt F) f [⟨Rect.whole S64x8x2048, payload c XA b q⟩]) ∗ homeP c XA b q)

theorem role_zero : roleS c XA 0 = flightS c XA 0 0 := by
  rw [roleS_lt c XA (by omega : 0 < 32)]
  have e : Ring.sl 3 0 = (0 : Fin 3) := rfl
  have e' : Ring.bk 32 0 = (0 : Fin 32) := rfl
  rw [e, e']
theorem role_one : roleS c XA (0 + 1) = flightS c XA 1 1 := by
  rw [roleS_lt c XA (by omega : 0 + 1 < 32)]
  have e : Ring.sl 3 (0 + 1) = (1 : Fin 3) := rfl
  have e' : Ring.bk 32 (0 + 1) = (1 : Fin 32) := rfl
  rw [e, e']
theorem started (s : Fin 3) (b : Fin 32) (f0 f1 f2 f3) :
    iprop(startP c XA s 0 b f0 ∗ startP c XA s 1 b f1 ∗ startP c XA s 2 b f2 ∗ startP c XA s 3 b f3) ⊢ flightS c XA s b := by
  unfold flightS
  rw [← flight_landed c XA s b 0 f0 [], ← flight_landed c XA s b 1 f1 [], ← flight_landed c XA s b 2 f2 [], ← flight_landed c XA s b 3 f3 []]

/-- The loop's entry. -/
theorem entry (gO : Buf (Elt F) (arg3.view.loc (c : Thread nD τ))) :
    iprop(oP c arg3 gO ∗ (∃ W, owes (c : Thread nD τ) 0 W) ∗ bigSep (Ring.homeSet 2 0) (homeS c XA)
      ∗ flightS c XA 0 0 ∗ flightS c XA 1 1 ∗ freeS c 2)
      ⊢ resAt c XA arg3 0 gO := by
  unfold resAt
  have e : Ring.sl 3 (0 + 2) = (2 : Fin 3) := rfl
  rw [role_zero, role_one, e]

/-- After the last trip every step is home and every slot free. -/
theorem exit_ (fo : Buf (Elt F) (arg3.view.loc (c : Thread nD τ))) :
    resAt c XA arg3 32 fo ⊢ iprop(oP c arg3 fo ∗ (∃ W, owes (c : Thread nD τ) 0 W) ∗ bigSep Finset.univ (homeS c XA) ∗ freeS c 0 ∗ freeS c 1 ∗ freeS c 2) := by
  unfold resAt
  have e : (Ring.homeSet 2 32 : Finset (Fin 32)) = Finset.univ := by
    ext b; have := b.isLt; simp only [Ring.mem_homeSet, Finset.mem_univ, iff_true]; omega
  have e0 : Ring.sl 3 (32 + 1) = (0 : Fin 3) := rfl
  have e1 : Ring.sl 3 (32 + 2) = (1 : Fin 3) := rfl
  have e2 : Ring.sl 3 32 = (2 : Fin 3) := rfl
  rw [e, roleS_ge c XA (by omega : ¬ 32 < 32), roleS_ge c XA (by omega : ¬ 32 + 1 < 32), e0, e1, e2]
  iintro ⟨HO, HW, Hh, H2, H0, H1⟩
  isplitl [HO]; · iexact HO
  isplitl [HW]; · iexact HW
  isplitl [Hh]; · iexact Hh
  isplitl [H0]; · iexact H0
  isplitl [H1]; · iexact H1
  iexact H2

/-- The loop, by its invariant. -/
theorem loop_rule (v1 : FVec F S256x1x1 .f32) (v3 : FVec F S1x256 .f32) (o0 : Buf (Elt F) (arg3.view.loc (c : Thread nD τ)))
    (kk : Unit → Prog (TpuEff nD τ sig (Elt F) Λ₀ .tc) PUnit) (Q : PUnit → sProp 𝕄) :
    resAt c XA arg3 0 o0 ⊢ iprop((∀ acc, resAt c XA arg3 32 (oAcc c XA arg3 v1 v3 o0 32) -∗ wp frame (wpE (defs₀ (F := F)) 𝒱₀ (c : Thread nD τ) none) Set.univ (kk acc) Q)
      -∗ wp frame (wpE (defs₀ (F := F)) 𝒱₀ (c : Thread nD τ) none) Set.univ (k0_t1_loop.for k0_t1_ok ()
        (k0_t1_body (F := F) xM (Memref.isWhole_whole _) arg1 harg1 arg2 harg2 arg3 harg3 bufM (Memref.isWhole_whole _) cc0_scratch1 v1 v3) >>= kk) Q) := by
  have h := exec_loop (kk := kk) (Q := Q) frame (wpE (defs₀ (F := F)) 𝒱₀ (c : Thread nD τ) none) Set.univ _ _ _ _ _ _
    (loopInv c XA arg1 harg1 arg2 harg2 arg3 harg3 v1 v3 o0)
  have e : Scf.trips k0_t1_loop.lb k0_t1_loop.ub k0_t1_loop.st = 32 := trips_eq
  rw [e] at h
  exact h

/-- The norm weights as the body loads them. -/
def w1Of (g1 : Buf (Elt F) (arg1.view.loc (c : Thread nD τ))) : FVec F S256x1x1 .f32 :=
  k0_pay6 (arg1.view.readAt (Elt F) (Rect.unit (s := S256x1x1) ![0, 0, 0] S256x1x1.size inb_S256x1x1_S256x1x1_0_0_0).toLoadRect g1)
/-- The score weights as the body loads them. -/
def w2Of (g2 : Buf (Elt F) (arg2.view.loc (c : Thread nD τ))) : FVec F S1x256 .f32 :=
  k0_pay7 (arg2.view.readAt (Elt F) (Rect.unit (s := S1x256) ![0, 0] S1x256.size inb_S1x256_S1x256_0_0).toLoadRect g2)
/-- What the body leaves in the result's buffer. -/
def outOf (g1 : Buf (Elt F) (arg1.view.loc (c : Thread nD τ))) (g2 : Buf (Elt F) (arg2.view.loc (c : Thread nD τ)))
    (gO : Buf (Elt F) (arg3.view.loc (c : Thread nD τ))) : Buf (Elt F) (arg3.view.loc (c : Thread nD τ)) :=
  oAcc c XA arg3 (w1Of c arg1 g1) (w2Of c arg2 g2) gO 32

/-- What the body hands back: the weights' buffers as they were, the result's at `out`, every step home, the slots free. -/
def POST (g1 : Buf (Elt F) (arg1.view.loc (c : Thread nD τ))) (g2 : Buf (Elt F) (arg2.view.loc (c : Thread nD τ)))
    (out : Buf (Elt F) (arg3.view.loc (c : Thread nD τ))) : sProp 𝕄 :=
  iprop((arg1.view.loc (c : Thread nD τ) ↦[arg1.view.set]{fullShare} g1) ∗ (arg2.view.loc (c : Thread nD τ) ↦[arg2.view.set]{fullShare} g2)
    ∗ oP c arg3 out ∗ (∃ W, owes (c : Thread nD τ) 0 W) ∗ bigSep Finset.univ (homeS c XA) ∗ freeS c 0 ∗ freeS c 1 ∗ freeS c 2)

/-- The body's triple. -/
theorem bodyRun (g1 g2 gO W) (Q : PUnit → sProp 𝕄) :
    iprop(PRE c XA arg1 arg2 arg3 g1 g2 gO W ∗ (POST c XA arg1 arg2 arg3 g1 g2 (outOf c XA arg1 arg2 arg3 g1 g2 gO) -∗ Q ⟨⟩))
      ⊢ wp frame (wpE (defs₀ (F := F)) 𝒱₀ (c : Thread nD τ) none) Set.univ (bodyG arg1 harg1 arg2 harg2 arg3 harg3) Q := by
  unfold PRE
  rw [homeS_eq c XA 0, homeS_eq c XA 1, freeS_eq c 0, freeS_eq c 1]
  iintro ⟨⟨H1, H2, HO, ⟨Ha0, Ha1, Ha2, Ha3⟩, ⟨Hb0, Hb1, Hb2, Hb3⟩, Hh, ⟨⟨%f0, Hp0⟩, ⟨%f1, Hp1⟩, ⟨%f2, Hp2⟩, ⟨%f3, Hp3⟩, Hc0, Hc1, Hc2, Hc3⟩,
    ⟨⟨%f4, Hq0⟩, ⟨%f5, Hq1⟩, ⟨%f6, Hq2⟩, ⟨%f7, Hq3⟩, Hd0, Hd1, Hd2, Hd3⟩, Hfree, HW⟩, Hk⟩
  sl_exec
  ihave HA := (started c XA 0 0 f0 f1 f2 f3) $$ [Hc0 Hc1 Hc2 Hc3]
  · isplitl [Hc0]; · iexact Hc0
    isplitl [Hc1]; · iexact Hc1
    isplitl [Hc2]; · iexact Hc2
    iexact Hc3
  ihave HB := (started c XA 1 1 f4 f5 f6 f7) $$ [Hd0 Hd1 Hd2 Hd3]
  · isplitl [Hd0]; · iexact Hd0
    isplitl [Hd1]; · iexact Hd1
    isplitl [Hd2]; · iexact Hd2
    iexact Hd3
  ihave HR := (entry c XA arg3 gO) $$ [HO HW Hh HA HB Hfree]
  · isplitl [HO]; · iexact HO
    isplitl [HW]; · iexists _; iexact HW
    isplitl [Hh]; · iexact Hh
    isplitl [HA]; · iexact HA
    isplitl [HB]; · iexact HB
    iexact Hfree
  iapply (loop_rule c XA arg1 harg1 arg2 harg2 arg3 harg3 (w1Of c arg1 g1) (w2Of c arg2 g2) gO) $$ [HR]
  · iexact HR
  iintro %_ HR
  sl_step
  iapply Hk
  unfold POST
  isplitl [H1]; · iexact H1
  isplitl [H2]; · iexact H2
  iapply (exit_ c XA arg3 (outOf c XA arg1 arg2 arg3 g1 g2 gO))
  iexact HR

end Body

end Cert.Proof.Pool

end
-- ==== Proof.Result.lean ====
/-
  What the loop leaves in the result's buffer, read at an index: row `h` of batch entry `b` is what step `8 * b + h / 8`
  stored, at its row `h % 8`.
-/
module

public import proofs.«01_k».proof.Proof.Body

@[expose] public section

set_option maxHeartbeats 800000

noncomputable section

namespace Cert.Proof.Pool

open Cert.KernelIdeal Cert.KernelIdeal.Gen
open Idealize.ShloMosaic
open Idealize.ShloMosaic.TcCoe Idealize.ShloMosaic.Tactic

variable {F : FTy → Type} [FloatOps F]

/-- The step that stores the result's element `i`. -/
def stepOf (i : S4x64x256.Idx) : Fin 32 := ⟨8 * (i 0).val + (i 1).val / 8, by
  have h0 : (i 0).val < 4 := (i 0).isLt
  have h1 : (i 1).val < 64 := (i 1).isLt
  omega⟩
/-- Where in that step's rows it lies. -/
def inStep (i : S4x64x256.Idx) : S1x8x256.Idx := fun a => ⟨(![0, (i 1).val % 8, (i 2).val] : Fin 3 → ℕ) a, by
  have h2 : (i 2).val < 256 := (i 2).isLt
  fin_cases a
  · show 0 < 1; omega
  · show (i 1).val % 8 < 8; omega
  · show (i 2).val < 256; omega⟩
/-- The whole result, from the weights as loaded and `x`. -/
def outFun (v1 : FVec F S256x1x1 .f32) (v3 : FVec F S1x256 .f32) (XA : S4x256x64x2048.Idx → Elt F .f32) : S4x64x256.Idx → Elt F .f32 :=
  fun i => payK v1 v3 XA (stepOf i) (inStep i)

theorem outR_emb (i : S4x64x256.Idx) : (outR (stepOf i)).emb (inStep i) = i := by
  have h0 : (i 0).val < 4 := (i 0).isLt
  have h1 : (i 1).val < 64 := (i 1).isLt
  funext a
  apply Fin.ext
  fin_cases a
  · show (8 * (i 0).val + (i 1).val / 8) / 8 + 1 * 0 = (i 0).val; omega
  · show 8 * ((8 * (i 0).val + (i 1).val / 8) % 8) + 1 * ((i 1).val % 8) = (i 1).val; omega
  · show 0 + 1 * (i 2).val = (i 2).val; omega

theorem mem_outR (b : Fin 32) (i : S4x64x256.Idx) : i ∈ (outR b).set ↔ stepOf i = b := by
  have hb := b.isLt
  have h0 : (i 0).val < 4 := (i 0).isLt
  have h1 : (i 1).val < 64 := (i 1).isLt
  have h2 : (i 2).val < 256 := (i 2).isLt
  constructor
  · rw [Rect.mem_set_unit]
    intro H
    have a0 : b.val / 8 ≤ (i 0).val ∧ (i 0).val < b.val / 8 + 1 := H 0
    have a1 : 8 * (b.val % 8) ≤ (i 1).val ∧ (i 1).val < 8 * (b.val % 8) + 8 := H 1
    apply Fin.ext; show 8 * (i 0).val + (i 1).val / 8 = b.val; omega
  · rintro rfl
    rw [Rect.mem_set_unit]
    intro a
    fin_cases a
    · show (8 * (i 0).val + (i 1).val / 8) / 8 ≤ (i 0).val ∧ (i 0).val < (8 * (i 0).val + (i 1).val / 8) / 8 + 1; omega
    · show 8 * ((8 * (i 0).val + (i 1).val / 8) % 8) ≤ (i 1).val ∧ (i 1).val < 8 * ((8 * (i 0).val + (i 1).val / 8) % 8) + 8; omega
    · show 0 ≤ (i 2).val ∧ (i 2).val < 0 + 256; omega

section
variable (c : Dev nD) (XA : Buf (Elt F) (xM.view.loc (c : Thread nD τ)))
  (arg3 : Memref sig .tc .vmem S4x64x256 .f32) (v1 : FVec F S256x1x1 .f32) (v3 : FVec F S1x256 .f32)

theorem piece_congr {off off' : Fin 3 → ℕ} (e : off = off') (h h') (w : S1x8x256.Idx → Elt F .f32) :
    (⟨Rect.unit (s := S4x64x256) off S1x8x256.size h, w⟩ : View.Piece (Elt F) S4x64x256 .f32) = ⟨Rect.unit (s := S4x64x256) off' S1x8x256.size h', w⟩ := by
  subst e; rfl
theorem outP_eq (k : Fin k0_t1_loop.trips) : outP c XA v1 v3 k = ⟨outR (Ring.bk 32 k.val), payK v1 v3 XA (Ring.bk 32 k.val)⟩ :=
  piece_congr (off30_eq k) _ _ _

theorem read_oAcc (o0 : Buf (Elt F) (arg3.view.loc (c : Thread nD τ))) (i : S4x64x256.Idx) : ∀ k ≤ 32, (stepOf i).val < k →
    arg3.view.read (Elt F) (oAcc c XA arg3 v1 v3 o0 k) i = outFun v1 v3 XA i
  | 0, _, h => absurd h (Nat.not_lt_zero _)
  | k + 1, hk, h => by
    have hk' : k < k0_t1_loop.trips := by rw [trips_eq]; omega
    have hb : (Ring.bk 32 k).val = k := Ring.bk_val (by omega : k < 32)
    rw [oAcc, dif_pos hk', outP_eq]
    by_cases e : (stepOf i).val = k
    · have e' : stepOf i = Ring.bk 32 k := Fin.ext (e.trans hb.symm)
      have hr := View.read_writes_cons_emb arg3.view (oAcc c XA arg3 v1 v3 o0 k) (outR (Ring.bk 32 k)) (payK v1 v3 XA (Ring.bk 32 k)) [] (inStep i)
      rw [← e', outR_emb] at hr
      rw [← e']
      exact hr
    · rw [View.read_writes_apply_of_forall_not_mem]
      · exact read_oAcc o0 i k (by omega) (by omega)
      · intro p hp
        rw [List.mem_singleton] at hp
        subst hp
        rw [mem_outR]
        exact fun e' => e (by rw [e', hb])

/-- The result's buffer after the body, whatever it held before. -/
theorem read_outOf (arg1 : Memref sig .tc .vmem S256x1x1 .f32) (arg2 : Memref sig .tc .vmem S1x256 .f32) (g1 g2 gO) :
    arg3.view.read (Elt F) (outOf c XA arg1 arg2 arg3 g1 g2 gO) = outFun (w1Of c arg1 g1) (w2Of c arg2 g2) XA :=
  funext fun i => read_oAcc c XA arg3 _ _ gO i 32 le_rfl (stepOf i).isLt
end

end Cert.Proof.Pool

end
-- ==== Proof.Split.lean ====
/-
  What the launch hands the kernel, in the kernel's own pieces: `x` is the 32 steps' parts, the ring and its twelve
  semaphores are three free slots.
-/
module

public import proofs.«01_k».proof.Proof.Result
public import proofs.«01_k».proof.Proof.Gen.KernelIdeal.Frame
public import Idealize.ShloMosaic.Lib.Pipeline.ValueKit

@[expose] public section

set_option maxRecDepth 16384
set_option maxHeartbeats 800000

noncomputable section

namespace Cert.Proof.Pool

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## The kernel's own semaphores -/

/-- The twelve cells: part `i % 4` of slot `i / 4`. -/
abbrev osem : Fin 12 → SemLoc sig := fun i => .dma (cell ⟨i.val / 4, by have := i.isLt; omega⟩ ⟨i.val % 4, by omega⟩).sem
theorem ownSemFacts : Pipeline.OwnSemFacts spec0 osem := by decide

theorem bigSep_fin12 {M : Type} [URA M] (Φ : Fin 12 → sProp M) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [(0 : Fin 12), (1 : Fin 12), (2 : Fin 12), (3 : Fin 12), (4 : Fin 12), (5 : Fin 12), (6 : Fin 12), (7 : Fin 12), (8 : Fin 12), (9 : Fin 12), (10 : Fin 12), (11 : Fin 12)]
    (by decide) (by decide) Φ
theorem ownSems0_eq (c : Dev nD) : (Pipeline.ownSems0 (Ix := Unit) (Name := ℕ) (U := UU nD τ) (Lvl := ℕ) (Val := Elt F) (τ := τ) osem c : sProp 𝕄)
    = iprop(cellP c 0 0 ∗ cellP c 0 1 ∗ cellP c 0 2 ∗ cellP c 0 3 ∗ cellP c 1 0 ∗ cellP c 1 1 ∗ cellP c 1 2 ∗ cellP c 1 3
      ∗ cellP c 2 0 ∗ cellP c 2 1 ∗ cellP c 2 2 ∗ cellP c 2 3) := by
  unfold Pipeline.ownSems0; rw [bigSep_fin12]; rfl

/-! ## `x` is the 32 steps' parts -/

/-- The elements of `x` step `b` reads. -/
abbrev blkS (b : Fin 32) : Finset S4x256x64x2048.Idx := (Finset.univ : Finset (Fin 4)).biUnion fun q => (blkR b q).set

theorem mem_blkR (b : Fin 32) (q : Fin 4) (y : S4x256x64x2048.Idx) :
    y ∈ (blkR b q).set ↔ (y 0).val = b.val / 8 ∧ (y 1).val / 64 = q.val ∧ (y 2).val / 8 = b.val % 8 := by
  have hb := b.isLt
  have hq := q.isLt
  have h0 : (y 0).val < 4 := (y 0).isLt
  have h1 : (y 1).val < 256 := (y 1).isLt
  have h2 : (y 2).val < 64 := (y 2).isLt
  have h3 : (y 3).val < 2048 := (y 3).isLt
  rw [Rect.mem_set_unit]
  constructor
  · intro H
    have a0 : b.val / 8 ≤ (y 0).val ∧ (y 0).val < b.val / 8 + 1 := H 0
    have a1 : 64 * q.val ≤ (y 1).val ∧ (y 1).val < 64 * q.val + 64 := H 1
    have a2 : 8 * (b.val % 8) ≤ (y 2).val ∧ (y 2).val < 8 * (b.val % 8) + 8 := H 2
    omega
  · intro H i
    fin_cases i
    · show b.val / 8 ≤ (y 0).val ∧ (y 0).val < b.val / 8 + 1; omega
    · show 64 * q.val ≤ (y 1).val ∧ (y 1).val < 64 * q.val + 64; omega
    · show 8 * (b.val % 8) ≤ (y 2).val ∧ (y 2).val < 8 * (b.val % 8) + 8; omega
    · show 0 ≤ (y 3).val ∧ (y 3).val < 0 + 2048; omega
theorem mem_blkS (b : Fin 32) (y : S4x256x64x2048.Idx) : y ∈ blkS b ↔ (y 0).val = b.val / 8 ∧ (y 2).val / 8 = b.val % 8 := by
  have h1 : (y 1).val < 256 := (y 1).isLt
  simp only [Finset.mem_biUnion, Finset.mem_univ, true_and, mem_blkR]
  exact ⟨fun ⟨_, h, _, h'⟩ => ⟨h, h'⟩, fun ⟨h, h'⟩ => ⟨⟨(y 1).val / 64, by omega⟩, h, rfl, h'⟩⟩
theorem blkS_disjoint : ∀ b b' : Fin 32, b ≠ b' → Disjoint (blkS b) (blkS b') := by
  intro b b' hne; rw [Finset.disjoint_left]; intro y hy hy'; rw [mem_blkS] at hy hy'
  exact hne (Fin.ext (by omega))
theorem blkS_cover : (Finset.univ : Finset (Fin 32)).biUnion blkS = Finset.univ := by
  ext y
  have h0 : (y 0).val < 4 := (y 0).isLt
  have h2 : (y 2).val < 64 := (y 2).isLt
  rw [Finset.mem_biUnion]
  simp only [Finset.mem_univ, true_and, iff_true]
  exact ⟨⟨8 * (y 0).val + (y 2).val / 8, by omega⟩, (mem_blkS _ _).mpr ⟨by show _ = (8 * (y 0).val + (y 2).val / 8) / 8; omega, by show _ = (8 * (y 0).val + (y 2).val / 8) % 8; omega⟩⟩
theorem blkR_disjoint (b : Fin 32) : ∀ q q' : Fin 4, q ≠ q' → Disjoint (blkR b q).set (blkR b q').set := by
  intro q q' hne; rw [Finset.disjoint_left]; intro y hy hy'; rw [mem_blkR] at hy hy'
  exact hne (Fin.ext (hy.2.1.symm.trans hy'.2.1))

section
variable (c : Dev nD) (XA : Buf (Elt F) (xM.view.loc (c : Thread nD τ)))

theorem homeP_eq (b : Fin 32) (q : Fin 4) : (homeP c XA b q : sProp 𝕄) = ((c : Thread nD τ).loc main_arg0 ↦[(blkR b q).set]{fullShare} XA) :=
  congrArg (fun S => ((c : Thread nD τ).loc main_arg0 ↦[S]{fullShare} XA : sProp 𝕄)) (blk_set b q)
theorem x_eq : (((c : Thread nD τ).loc main_arg0) ↦{fullShare} XA : sProp 𝕄) = bigSep Finset.univ (homeS c XA) := by
  rw [Ring.pointsTo_blocks (ℓ := (c : Thread nD τ).loc main_arg0) blkS blkS_disjoint blkS_cover]
  refine bigSep_congr fun b _ => ?_
  rw [Ring.pointsTo_sub_blocks (ℓ := (c : Thread nD τ).loc main_arg0) (fun q => (blkR b q).set) (blkR_disjoint b) _ rfl, bigSep_fin4]
  unfold homeS
  rw [homeP_eq, homeP_eq, homeP_eq, homeP_eq]
theorem homes_zero : bigSep Finset.univ (homeS c XA) = iprop(homeS c XA 0 ∗ homeS c XA 1 ∗ bigSep (Ring.homeSet 2 0) (homeS c XA)) := by
  have e : (Finset.univ : Finset (Fin 32)) = insert 0 (insert 1 (Ring.homeSet (NB := 32) 2 0)) := by
    ext b; simp only [Finset.mem_univ, Finset.mem_insert, Ring.mem_homeSet, true_iff, Fin.ext_iff]; have := b.isLt; omega
  rw [e, bigSep_insert (by simp [Ring.mem_homeSet, Fin.ext_iff]), bigSep_insert (by simp [Ring.mem_homeSet])]; rfl

/-! ## The ring is its three slots -/

theorem slotR_disjoint : ∀ s s' : Fin 3, s ≠ s' → Disjoint (slotR s).set (slotR s').set := by
  intro s s' hne; rw [Finset.disjoint_left]; intro y hy hy'; rw [mem_slotR] at hy hy'
  exact hne (Fin.ext (hy.symm.trans hy'))
theorem slotR_cover : (Finset.univ : Finset (Fin 3)).biUnion (fun s => (slotR s).set) = Finset.univ := by
  ext y
  have h0 : (y 0).val < 3 := (y 0).isLt
  simp only [Finset.mem_biUnion, Finset.mem_univ, true_and, iff_true, mem_slotR]
  exact ⟨⟨(y 0).val, h0⟩, rfl⟩
theorem slotP_eq (s : Fin 3) (f) : (slotP c s f : sProp 𝕄) = ((c : Thread nD τ).loc cc0_scratch0 ↦[(slotR s).set]{fullShare} f) :=
  congrArg (fun S => ((c : Thread nD τ).loc cc0_scratch0 ↦[S]{fullShare} f : sProp 𝕄)) (slotW_set s)
theorem partP_eq (s : Fin 3) (q : Fin 4) (f) : (partP c s q f : sProp 𝕄) = ((c : Thread nD τ).loc cc0_scratch0 ↦[(partR s q).set]{fullShare} f) :=
  congrArg (fun S => ((c : Thread nD τ).loc cc0_scratch0 ↦[S]{fullShare} f : sProp 𝕄)) (part_set s q)

/-- The ring whole and the twelve cells are three free slots. -/
theorem ring_split :
    iprop((∃ f : Buf (Elt F) ((c : Thread nD τ).loc cc0_scratch0), ((c : Thread nD τ).loc cc0_scratch0) ↦{fullShare} f) ∗ Pipeline.ownSems0 osem c)
      ⊢ (iprop(freeS c 0 ∗ freeS c 1 ∗ freeS c 2) : sProp 𝕄) := by
  rw [ownSems0_eq]
  iintro ⟨⟨%f, H⟩, A0, A1, A2, A3, B0, B1, B2, B3, C0, C1, C2, C3⟩
  ihave H2 := (entails_of_eq ((Ring.pointsTo_blocks (Ix := Unit) (Name := ℕ) (U := UU nD τ) (Lvl := ℕ) (q := fullShare) (ℓ := (c : Thread nD τ).loc cc0_scratch0) (fun s => (slotR s).set) slotR_disjoint slotR_cover f).trans (bigSep_fin3 _))) $$ H
  icases H2 with ⟨H0, H1, H2⟩
  isplitl [H0 A0 A1 A2 A3]
  · iapply (freed c 0 f)
    isplitl [H0]; · iapply (entails_of_eq (slotP_eq c 0 f).symm); iexact H0
    isplitl [A0]; · iexact A0
    isplitl [A1]; · iexact A1
    isplitl [A2]; · iexact A2
    iexact A3
  isplitl [H1 B0 B1 B2 B3]
  · iapply (freed c 1 f)
    isplitl [H1]; · iapply (entails_of_eq (slotP_eq c 1 f).symm); iexact H1
    isplitl [B0]; · iexact B0
    isplitl [B1]; · iexact B1
    isplitl [B2]; · iexact B2
    iexact B3
  iapply (freed c 2 f)
  isplitl [H2]; · iapply (entails_of_eq (slotP_eq c 2 f).symm); iexact H2
  isplitl [C0]; · iexact C0
  isplitl [C1]; · iexact C1
  isplitl [C2]; · iexact C2
  iexact C3

/-- A free slot is the slot at some contents, beside its four cells. -/
theorem slot_join (s : Fin 3) : (freeS c s : sProp 𝕄) ⊢ iprop((∃ f : Buf (Elt F) ((c : Thread nD τ).loc cc0_scratch0), (c : Thread nD τ).loc cc0_scratch0 ↦[(slotR s).set]{fullShare} f)
    ∗ cellP c s 0 ∗ cellP c s 1 ∗ cellP c s 2 ∗ cellP c s 3) := by
  unfold freeS
  iintro ⟨⟨%f0, H0⟩, ⟨%f1, H1⟩, ⟨%f2, H2⟩, ⟨%f3, H3⟩, HC⟩
  isplitr [HC]
  · iapply (Ring.pointsTo_sub_blocks_join_exists (ℓ := (c : Thread nD τ).loc cc0_scratch0) (fun q => (partR s q).set) (partR_disjoint s) _ (partR_cover s) f0)
    irw [bigSep_fin4]
    isplitl [H0]; · iexists f0; iapply (entails_of_eq (partP_eq c s 0 f0)); iexact H0
    isplitl [H1]; · iexists f1; iapply (entails_of_eq (partP_eq c s 1 f1)); iexact H1
    isplitl [H2]; · iexists f2; iapply (entails_of_eq (partP_eq c s 2 f2)); iexact H2
    iexists f3; iapply (entails_of_eq (partP_eq c s 3 f3)); iexact H3
  iexact HC

/-- and back. -/
theorem ring_join :
    (iprop(freeS c 0 ∗ freeS c 1 ∗ freeS c 2) : sProp 𝕄)
      ⊢ iprop(Pipeline.ownSems0 osem c ∗ (∃ f : Buf (Elt F) ((c : Thread nD τ).loc cc0_scratch0), ((c : Thread nD τ).loc cc0_scratch0) ↦{fullShare} f)) := by
  rw [ownSems0_eq]
  iintro ⟨H0, H1, H2⟩
  ihave H0' := (slot_join c 0) $$ H0
  ihave H1' := (slot_join c 1) $$ H1
  ihave H2' := (slot_join c 2) $$ H2
  icases H0' with ⟨⟨%f0, H0⟩, A0, A1, A2, A3⟩
  icases H1' with ⟨⟨%f1, H1⟩, B0, B1, B2, B3⟩
  icases H2' with ⟨⟨%f2, H2⟩, C⟩
  isplitr [H0 H1 H2]
  · isplitl [A0]; · iexact A0
    isplitl [A1]; · iexact A1
    isplitl [A2]; · iexact A2
    isplitl [A3]; · iexact A3
    isplitl [B0]; · iexact B0
    isplitl [B1]; · iexact B1
    isplitl [B2]; · iexact B2
    isplitl [B3]; · iexact B3
    iexact C
  iapply (Ring.pointsTo_blocks_join_exists (ℓ := (c : Thread nD τ).loc cc0_scratch0) (fun s => (slotR s).set) slotR_disjoint slotR_cover f0)
  irw [bigSep_fin3]
  isplitl [H0]; · iexists f0; iexact H0
  isplitl [H1]; · iexists f1; iexact H1
  iexists f2; iexact H2
end

end Cert.Proof.Pool

end
-- ==== Proof.Run.lean ====
/-
  The launch: the whole program, from any memory, runs and ends with its arguments unchanged, the result at `outFun`
  and every semaphore counter at zero. Its set-up follows the library's launch with a kernel that holds semaphores of
  its own.
-/
module

public import proofs.«01_k».proof.Proof.Split
public import proofs.«01_k».proof.Proof.Gen.KernelIdeal.Frame
public import Idealize.ShloMosaic.Lib.Pipeline.ValueKit

@[expose] public section

set_option maxRecDepth 16384
set_option maxHeartbeats 800000

noncomputable section

namespace Cert.Proof.Pool

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Launch
variable (m : (ℓ : Loc nD τ sig) → Buf (Elt F) ℓ) (ρ : Dev nD → PrngReg)

/-- `x` as the region finds it. -/
abbrev XA (c : Dev nD) : Buf (Elt F) (xM.view.loc (c : Thread nD τ)) := V m c main_arg0

/-! ## The pipeline's proof data -/

/-- The region's invariant: `x`'s parts home, the slots free, the weights' arrays as launched. -/
def Φ (c : Dev nD) : sProp 𝕄 :=
  iprop(bigSep Finset.univ (homeS c (XA m c)) ∗ freeS c 0 ∗ freeS c 1 ∗ freeS c 2)

abbrev hst0 (t : Fin cfg0.N) : (st0_0 t).IsWhole := hstage0_0 0
abbrev hst1 (t : Fin cfg0.N) : (st0_1 t).IsWhole := hstage0_1 0
abbrev hst2 (t : Fin cfg0.N) : (st0_2 t).IsWhole := hstage0_2 0

/-- The weights as the body loads them at point `t`. -/
def w1At (c : Dev nD) (t : Fin cfg0.N) : FVec F S256x1x1 .f32 := w1Of c (st0_0 t) ((st0_0 t).view.rep (iblk m c 0 t))
def w2At (c : Dev nD) (t : Fin cfg0.N) : FVec F S1x256 .f32 := w2Of c (st0_1 t) ((st0_1 t).view.rep (iblk m c 1 t))
/-- What the body leaves in the result's staging buffer. -/
def outAt (c : Dev nD) (t : Fin cfg0.N) : (cfg0.win 2).block.Idx → Elt F (cfg0.win 2).elt := outFun (w1At m c t) (w2At m c t) (XA m c)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => outAt m c t
  Φ _ := Φ m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = outAt m c t := by dsimp only [dats]

/-! ## The body obligation -/

theorem defs_tc : (defs₀ (F := F)) .tc cfg0.body
    = fun a => bodyG (win0_0.stage (a.2 0)) (hstage0_0 0) (win0_1.stage (a.2 1)) (hstage0_1 0) (win0_2.stage (a.2 2)) (hstage0_2 0) := rfl
theorem prog_eq (t : Fin cfg0.N) : (defs₀ (F := F)) .tc cfg0.body (cfg0.bodyArgs t (cfg0.slots t))
    = bodyG (st0_0 t) (hst0 t) (st0_1 t) (hst1 t) (st0_2 t) (hst2 t) :=
  (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, after_w0, after_w1, after_w2]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns Φ
  iintro ⟨⟨Hh, Hs0, Hs1, Hs2⟩, ⟨%W, -, HW⟩, ⟨%d0, %g0, %hg0, H0⟩, ⟨%d1, %g1, %hg1, H1⟩, ⟨%d2, %gO, -, HO⟩⟩
  ihave Hh3 := (entails_of_eq (homes_zero c (XA m c))) $$ Hh
  icases Hh3 with ⟨Ha, Hb, Hh⟩
  ihave H0' := (pointsTo_rep_entails (c : Thread nD τ) (st0_0 t) g0 fullShare) $$ H0
  ihave H1' := (pointsTo_rep_entails (c : Thread nD τ) (st0_1 t) g1 fullShare) $$ H1
  rw [hg0, hg1]
  sl_rw [prog_eq t]
  iapply (bodyRun c (XA m c) (st0_0 t) (hst0 t) (st0_1 t) (hst1 t) (st0_2 t) (hst2 t) _ _ gO W)
  unfold PRE POST
  isplitl [H0' H1' HO Ha Hb Hh Hs0 Hs1 Hs2 HW]
  · isplitl [H0']; · iexact H0'
    isplitl [H1']; · iexact H1'
    isplitl [HO]; · iexact HO
    isplitl [Ha]; · iexact Ha
    isplitl [Hb]; · iexact Hb
    isplitl [Hh]; · iexact Hh
    isplitl [Hs0]; · iexact Hs0
    isplitl [Hs1]; · iexact Hs1
    isplitl [Hs2]; · iexact Hs2
    iexact HW
  · iintro ⟨H0, H1, HO, ⟨%W', HW⟩, Hh, Hs0, Hs1, Hs2⟩
    isplitl [Hh Hs0 Hs1 Hs2]
    · isplitl [Hh]; · iexact Hh
      isplitl [Hs0]; · iexact Hs0
      isplitl [Hs1]; · iexact Hs1
      iexact Hs2
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    iexists _; isplitr
    · ipureintro; exact read_outOf c (XA m c) (st0_2 t) (st0_0 t) (st0_1 t) _ _ gO
    iexact HO

/-! ## The run -/

def intoΦ (c : Dev nD) : sProp 𝕄 := iprop(bigSep Finset.univ (homeS c (XA m c)) ∗ Pipeline.ownSems0 osem c)
def outOfΦ (c : Dev nD) : sProp 𝕄 := ((c : Thread nD τ).loc main_arg0) ↦{fullShare} XA m c
/-- The weights' arrays, which the region does not touch. -/
def restP (c : Dev nD) : sProp 𝕄 :=
  iprop((((c : Thread nD τ).loc main_arg1) ↦{fullShare} V m c main_arg1) ∗ (((c : Thread nD τ).loc main_arg2) ↦{fullShare} V m c main_arg2))
def u₀ : UU nD τ := (initOf (Pipeline.cells cfgs cellOf_inj) (Pipeline.launchToks cfgs cellOf_inj), 1)
def finalA (c : Dev nD) (w : Fin cfg0.W) : Buf (Elt F) ((cfg0.win w).arr.view.loc (c : Thread nD τ)) := (dats m 0 c).arrAt w cfg0.N
def QY (c : Dev nD) (s : MemSt nD τ sig (Elt F)) : Prop :=
  s.mem ((c : Thread nD τ).loc main_arg0) = V m c main_arg0 ∧ s.mem ((c : Thread nD τ).loc main_arg1) = V m c main_arg1
    ∧ s.mem ((c : Thread nD τ).loc main_arg2) = V m c main_arg2
def QC : PUnit × MemSt nD τ sig (Elt F) → Prop := fun r =>
  ∀ c : Dev nD, (∀ w : Fin cfg0.W, r.2.mem ((cfg0.win w).arr.view.loc (c : Thread nD τ)) = finalA m c w) ∧ QY m c r.2

set_option backward.isDefEq.respectTransparency.types false in
/-- Every weakly fair execution terminates, in `QC` and with every counter at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := intoΦ m) (Y := outOfΦ m) (Z := restP m)
    (hX := fun c => by
      rw [unscopedRest0_eq, x_eq c (V m c main_arg0)]
      unfold intoΦ restP
      iintro ⟨⟨H0, H1, H2, -⟩, HS, -⟩; imodintro
      isplitl [H0 HS]
      · isplitl [H0]; · iexact H0
        iexact HS
      isplitl [H1]; · iexact H1
      iexact H2)
    (hin := fun c => by
      rw [scopedRest0_eq, show (dats m 0 c).Φ 0 = Φ m c from rfl]
      unfold intoΦ Φ
      iintro ⟨⟨H0, Hc⟩, Hb⟩
      isplitl [H0]; · iexact H0
      iapply (ring_split c)
      isplitl [Hb]; · iexact Hb
      iexact Hc)
    (hout := fun c => by
      rw [scopedRest0_eq, show (dats m 0 c).Φ (Fin.last cfg0.N) = Φ m c from rfl]
      unfold Φ outOfΦ; rw [← x_eq c (XA m c)]
      iintro ⟨H0, Hs⟩
      isplitl [H0]; · iexact H0
      iapply (ring_join c)
      iexact Hs)
    (QY := QY m)
    (hY := fun c s' => by
      unfold outOfΦ restP QY
      iintro ⟨H0, ⟨H1, H2⟩, HSI⟩
      icombine HSI H0 gives %h0
      icombine HSI H1 gives %h1
      icombine HSI H2 gives %h2
      imodintro
      isplitr; · ipureintro; exact ⟨Buf.eq_of_forall_mem_univ h0, Buf.eq_of_forall_mem_univ h1, Buf.eq_of_forall_mem_univ h2⟩
      iexact HSI)
    (hQ := fun _ hh hz => ⟨hh, hz⟩)

/-- The result's array after the run. -/
theorem finalA_out (c : Dev nD) : finalA m c 2 = outFun (w1At m c t0_0) (w2At m c t0_0) (V m c main_arg0) := by
  refine (dats m 0 c).arrAt_eq_of_after_last 2 t0_0 (by decide +kernel) _ fun j => ?_
  rw [after_w2]
  unfold outAt
  blk_simp

/-- The run, at the memories the claims read. -/
theorem run : θ_run defs (onTc (τ := τ) (main (F := F))) ⟨m, fun _ => 0, ρ⟩ (fun r => (∀ c : Dev nD,
      r.2.mem ((c : Thread nD τ).loc main_v3) = outFun (w1At m c t0_0) (w2At m c t0_0) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) := by
  refine (θ_run defs _ _).mono (fun r hh => ⟨fun c => ?_, hh.2⟩) (run_main m ρ)
  obtain ⟨hw, h0, h1, h2⟩ := hh.1 c
  refine ⟨((hw 2).trans (finalA_out m c)).trans ?_, h0.trans (V_main_arg0 m c), h1.trans (V_main_arg1 m c), h2.trans (V_main_arg2 m c)⟩
  rw [V_main_arg0]

end Launch

end Cert.Proof.Pool

end
-- ==== Proof.Frames.lean ====
/- The frames: both printings of the kernel, and the reference, leave their three arguments alone and every
   semaphore counter at zero. -/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run
public import Idealize.ShloMosaic.Adequacy
public import Idealize.ShloMosaic.Init

@[expose] public section

set_option maxRecDepth 100000

noncomputable section

namespace Cert.Proof

open Idealize.ShloMosaic Idealize.ShloMosaic.TcCoe Idealize.SL.Sem

variable (F : FTy → Type) [FloatOps F]

/-- The two printings of the kernel have the same kernel bodies (the idealization replaced no operation). -/
theorem defs₀_eq : (Cert.Kernel.defs₀ (F := F)) = (Cert.KernelIdeal.defs₀ (F := F)) := by
  unfold Cert.Kernel.defs₀ Cert.KernelIdeal.defs₀
  congr 1
  funext l a
  match l, a with
  | 0, (t, s) => rfl

/-- Hence the same definitions at the launch. -/
theorem defs_eq : (Cert.Kernel.defs (F := F)) = (Cert.KernelIdeal.defs (F := F)) :=
  congrArg (Pipeline.defs _) (defs₀_eq F)

/-- The idealized kernel's frame: the run, read at the arguments and the counters. -/
theorem frame_pi : Cert.quiescent_KernelIdeal := fun m ρ _ =>
  (θ_run Cert.KernelIdeal.defs _ _).mono (fun _ h => ⟨fun c => (h.1 c).2, h.2⟩) (Pool.run (F := Ideal) m ρ)

/-- The kernel's frame: it is the same program, run at the bit-exact floats. -/
theorem frame_p : Cert.quiescent_Kernel := by
  intro m ρ _
  rw [defs_eq Bits]
  exact (θ_run Cert.KernelIdeal.defs _ _).mono (fun _ h => ⟨fun c => (h.1 c).2, h.2⟩) (Pool.run (F := Bits) m ρ)

/-- The reference's frame: the generated run, read at the arguments; it declares no semaphore. -/
theorem frame_ri : Cert.quiescent_ReferenceIdeal := by
  intro m ρ _
  exact (θ_run Cert.ReferenceIdeal.defs _ _).mono (fun r h => ⟨fun c => (h c).2,
      Idealize.ShloMosaic.sem_eq_zero_of_no_sems (by decide) r.2⟩)
    (Cert.ReferenceIdeal.Value.run (F := Ideal) m ρ)

end Cert.Proof

end
-- ==== Proof.Numbers.lean ====
/- The arithmetic over the extended reals behind the value claim: normalize, score, softmax over the pooled axis, weighted
   sum, in the kernel's order (`poolK`) and in the reference's (`poolR`), and that the two are equal when both weight
   vectors are finite. Features are indexed by `ι`, pooled positions by `κ`. -/
module

public import Idealize.ShloMosaic.PureOps.Ideal

@[expose] public section

noncomputable section

namespace Cert.Proof.Numbers

open Idealize.ShloMosaic

/-! ## The constants -/

/-- The bits of `1/256`. -/
theorem bits_inv256 : Ideal.ofBits .f32 0x3B800000#32 = ((1 / 256 : ℝ) : EReal) := by
  simp [Ideal.ofBits, Ideal.ieee, -EReal.coe_mul]; norm_num
/-- The bits of `256`. -/
theorem bits_256 : Ideal.ofBits .f32 0x43800000#32 = ((256 : ℝ) : EReal) := by
  simp [Ideal.ofBits, Ideal.ieee, -EReal.coe_mul]; norm_num
/-- The bits of the small constant under the root: `2 ^ -23`. -/
theorem bits_eps : Ideal.ofBits .f32 0x34000000#32 = ((1 / 8388608 : ℝ) : EReal) := by
  simp [Ideal.ofBits, Ideal.ieee, -EReal.coe_mul]; norm_num
/-- The bits of minus infinity. -/
theorem bits_bot : Ideal.ofBits .f32 0xFF800000#32 = (⊥ : EReal) := by
  simp [Ideal.ofBits, Ideal.ieee]

variable {ι κ : Type} [Fintype ι] [Fintype κ]

/-! ## The two orders of computation -/

/-- The kernel's scale of a position: the reciprocal root of the mean square, the mean by a product. -/
def scaleK (x : ι → EReal) : EReal :=
  Ideal.rsqrt ((∑ k, x k * x k) * Ideal.ofBits .f32 0x3B800000#32 + Ideal.ofBits .f32 0x34000000#32)
/-- The reference's scale: the mean by a quotient. -/
def scaleR (x : ι → EReal) : EReal :=
  Ideal.rsqrt (Ideal.div (∑ k, x k * x k) (Ideal.ofBits .f32 0x43800000#32) + Ideal.ofBits .f32 0x34000000#32)
/-- The kernel's score of a position: the raw features against the product of the weights, then scaled. -/
def scoreK (p x : ι → EReal) : EReal := (∑ k, x k * p k) * scaleK x
/-- The reference's score: the normalized features against the score weights. -/
def scoreR (nw sw x : ι → EReal) : EReal := ∑ k, x k * scaleR x * nw k * sw k
/-- The kernel's largest score. -/
def topK (p : ι → EReal) (x : ι → κ → EReal) : EReal :=
  Finset.fold max (Ideal.ofBits .f32 0xFF800000#32) (fun w => scoreK p fun k => x k w) Finset.univ
/-- The reference's largest score. -/
def topR (nw sw : ι → EReal) (x : ι → κ → EReal) : EReal :=
  max (Ideal.ofBits .f32 0xFF800000#32)
    (Finset.fold max (Ideal.ofBits .f32 0xFF800000#32) (fun w => scoreR nw sw fun k => x k w) Finset.univ)
/-- What the kernel stores for feature `d`: the scale and the softmax's denominator go into one weight per position, the
    norm weight multiplies the sum. -/
def poolK (p nw : ι → EReal) (x : ι → κ → EReal) (d : ι) : EReal :=
  (∑ w, x d w * (Ideal.exp (scoreK p (fun k => x k w) - topK p x)
    * Ideal.div (scaleK fun k => x k w) (∑ v, Ideal.exp (scoreK p (fun k => x k v) - topK p x)))) * nw d
/-- What the reference computes for feature `d`: the softmax's weights against the normalized features. -/
def poolR (nw sw : ι → EReal) (x : ι → κ → EReal) (d : ι) : EReal :=
  ∑ w, Ideal.div (Ideal.exp (scoreR nw sw (fun k => x k w) - topR nw sw x))
      (∑ v, Ideal.exp (scoreR nw sw (fun k => x k v) - topR nw sw x))
    * (x d w * scaleR (fun k => x k w) * nw d)

/-! ## They are equal -/

/-- A finite sum of real numbers, as extended reals. -/
theorem coe_sum {α : Type} [Fintype α] (f : α → ℝ) : ((∑ i, f i : ℝ) : EReal) = ∑ i, (f i : EReal) :=
  map_sum (⟨⟨Real.toEReal, EReal.coe_zero⟩, EReal.coe_add⟩ : ℝ →+ EReal) f Finset.univ

/-- The two means are one. -/
theorem scaleR_eq (x : ι → EReal) : scaleR x = scaleK x := by
  unfold scaleR scaleK
  rw [bits_256, bits_inv256, Ideal.div_coe (by norm_num)]

/-- A square is not negative. -/
theorem sq_nonneg' (a : EReal) : 0 ≤ a * a := by
  induction a with
  | bot => simp
  | top => simp
  | coe r => rw [← EReal.coe_mul]; exact_mod_cast mul_self_nonneg r

/-- An infinite feature makes the sum of squares infinite. -/
theorem sum_sq_top (x : ι → EReal) (k : ι) (h : x k * x k = ⊤) : ∑ k, x k * x k = ⊤ := by
  refine top_le_iff.mp (h ▸ ?_)
  exact Finset.single_le_sum (f := fun k => x k * x k) (fun i _ => sq_nonneg' (x i)) (Finset.mem_univ k)

/-- At real features the scale is real. -/
theorem scaleK_coe (y : ι → ℝ) : ∃ ρ : ℝ, scaleK (fun k => (y k : EReal)) = ρ := by
  unfold scaleK
  have h0 : 0 ≤ ∑ k, y k * y k := Finset.sum_nonneg fun k _ => mul_self_nonneg (y k)
  have e : (∑ k, (y k : EReal) * (y k : EReal)) * Ideal.ofBits .f32 0x3B800000#32 + Ideal.ofBits .f32 0x34000000#32
      = (((∑ k, y k * y k) * (1 / 256) + 1 / 8388608 : ℝ) : EReal) := by
    rw [bits_inv256, bits_eps, EReal.coe_add, EReal.coe_mul, coe_sum]; simp only [EReal.coe_mul]
  have hp : 0 < (∑ k, y k * y k) * (1 / 256) + 1 / 8388608 := by positivity
  rw [e, Ideal.rsqrt_coe, if_neg hp.le.not_gt, if_neg hp.ne']
  exact ⟨_, rfl⟩

/-- A position is either real, with a real scale, or has the scale zero. -/
theorem scale_cases (x : ι → EReal) :
    (∃ (y : ι → ℝ) (ρ : ℝ), x = (fun k => (y k : EReal)) ∧ scaleK x = ρ) ∨ scaleK x = 0 := by
  by_cases h : ∃ k, x k * x k = ⊤
  · obtain ⟨k, hk⟩ := h
    right
    unfold scaleK
    rw [sum_sq_top x k hk, bits_inv256, bits_eps, EReal.top_mul_coe_of_pos (by norm_num), EReal.top_add_coe, Ideal.rsqrt_top]
  · left
    have hx : ∀ k, ((x k).toReal : EReal) = x k := fun k =>
      EReal.coe_toReal (fun e => h ⟨k, by rw [e]; simp⟩) (fun e => h ⟨k, by rw [e]; simp⟩)
    have ex : x = fun k => ((x k).toReal : EReal) := funext fun k => (hx k).symm
    obtain ⟨ρ, hρ⟩ := scaleK_coe fun k => (x k).toReal
    exact ⟨_, ρ, ex, by rw [ex]; exact hρ⟩

/-- So the normalized features `z` are real, the scale is real, and the kernel's score is their sum against the weights. -/
theorem scaled (x : ι → EReal) : ∃ (z : ι → ℝ) (ρ : ℝ), scaleK x = ρ ∧ (∀ k, x k * scaleK x = z k)
    ∧ ∀ p : ι → ℝ, scoreK (fun k => (p k : EReal)) x = ((∑ k, z k * p k : ℝ) : EReal) := by
  rcases scale_cases x with ⟨y, ρ, hx, hρ⟩ | h
  · refine ⟨fun k => y k * ρ, ρ, hρ, fun k => ?_, fun p => ?_⟩
    · rw [hρ, hx]; push_cast; rfl
    · unfold scoreK
      rw [hρ, hx]
      have : (∑ k, y k * ρ * p k) = (∑ k, y k * p k) * ρ := by
        rw [Finset.sum_mul]; exact Finset.sum_congr rfl fun k _ => by ring
      rw [this, EReal.coe_mul, coe_sum]; simp only [EReal.coe_mul]
  · refine ⟨fun _ => 0, 0, by rw [h]; rfl, fun k => by rw [h, mul_zero]; rfl, fun p => ?_⟩
    unfold scoreK
    rw [h, mul_zero]; simp

/-- The largest of real numbers, there being one, is real. -/
theorem fold_max_coe [Nonempty κ] (s : κ → ℝ) : ∃ M : ℝ, Finset.fold max (⊥ : EReal) (fun w => (s w : EReal)) Finset.univ = M := by
  have e : Finset.fold max (⊥ : EReal) (fun w => (s w : EReal)) Finset.univ = Finset.univ.sup fun w => (s w : EReal) := rfl
  obtain ⟨w, -, hw⟩ := Finset.exists_mem_eq_sup Finset.univ Finset.univ_nonempty fun w => (s w : EReal)
  exact ⟨s w, e.trans hw⟩

/-- The two computations agree at finite weights, whatever the features: both are the real softmax average of the
    normalized features, times the norm weight. -/
theorem pool_eq [Nonempty κ] (a b : ι → ℝ) (x : ι → κ → EReal) (d : ι) :
    poolK (fun k => (a k : EReal) * (b k : EReal)) (fun k => (a k : EReal)) x d
      = poolR (fun k => (a k : EReal)) (fun k => (b k : EReal)) x d := by
  choose z ρ hρ hz hs using fun w => scaled fun k => x k w
  have hK : ∀ w, scoreK (fun k => (a k : EReal) * (b k : EReal)) (fun k => x k w) = ((∑ k, z w k * (a k * b k) : ℝ) : EReal) :=
    fun w => by rw [← hs w fun k => a k * b k]; simp only [EReal.coe_mul]
  have hR : ∀ w, scoreR (fun k => (a k : EReal)) (fun k => (b k : EReal)) (fun k => x k w) = ((∑ k, z w k * (a k * b k) : ℝ) : EReal) := by
    intro w
    unfold scoreR
    rw [scaleR_eq, coe_sum]
    refine Finset.sum_congr rfl fun k _ => ?_
    rw [hz w k, mul_assoc, EReal.coe_mul, EReal.coe_mul]
  obtain ⟨M, hM⟩ := fold_max_coe fun w => ∑ k, z w k * (a k * b k)
  have tK : topK (fun k => (a k : EReal) * (b k : EReal)) x = M := by
    unfold topK; simp only [hK, bits_bot]; exact hM
  have tR : topR (fun k => (a k : EReal)) (fun k => (b k : EReal)) x = M := by
    unfold topR; simp only [hR, bits_bot]; rw [hM]; exact max_eq_right bot_le
  obtain ⟨s, hsd⟩ : ∃ s : κ → ℝ, s = fun w => ∑ k, z w k * (a k * b k) := ⟨_, rfl⟩
  have he : ∀ w, ((∑ k, z w k * (a k * b k) : ℝ) : EReal) - (M : EReal) = ((s w - M : ℝ) : EReal) := fun w => by rw [hsd]; rfl
  have hE : 0 < ∑ v, Real.exp (s v - M) := Finset.sum_pos (fun v _ => Real.exp_pos _) Finset.univ_nonempty
  unfold poolK poolR
  simp only [tK, tR, hK, hR, scaleR_eq, he, Ideal.exp_coe, ← coe_sum, Ideal.div_coe hE.ne', hz]
  generalize (1 / ∑ v, Real.exp (s v - M)) = q
  have hl : ∀ w, x d w * ((Real.exp (s w - M) : EReal) * (scaleK (fun k => x k w) * (q : EReal)))
      = ((z w d * (Real.exp (s w - M) * q) : ℝ) : EReal) := fun w => by
    rw [EReal.coe_mul, ← hz w d, EReal.coe_mul, mul_left_comm (Real.exp (s w - M) : EReal), ← mul_assoc]
  simp only [hl, ← coe_sum, ← EReal.coe_mul]
  rw [Finset.sum_mul]
  exact congrArg _ (Finset.sum_congr rfl fun w _ => by ring)

end Cert.Proof.Numbers

end
-- ==== Proof.Reads.lean ====
/- The two programs' results read at an index: the kernel's stored block and the reference's composed term are `poolK` and
   `poolR` (Numbers.lean) of the batch entry's row; the kernel's two windows hold the weights' product and the norm weight. -/
module

public import proofs.«01_k».proof.Proof.Run
public import proofs.«01_k».proof.Proof.Numbers
public import proofs.«01_k».proof.Proof.Gen.ReferenceIdeal
public import proofs.«01_k».proof.Proof.Gen.ReferenceIdeal.Run
public import Idealize.ShloMosaic.Lib.Pointwise

@[expose] public section

set_option maxRecDepth 16384

noncomputable section

namespace Cert.Proof

open Idealize.ShloMosaic Idealize.ShloMosaic.TcCoe Cert.Proof.Numbers

namespace Pool

open Cert.KernelIdeal Cert.KernelIdeal.Gen

/-- What the body stores of a slot, at row `r` and feature `d`. -/
theorem pay_apply (v1 : FVec Ideal S256x1x1 .f32) (v3 : FVec Ideal S1x256 .f32) (v : FVec Ideal S1x256x8x2048 .f32)
    (r : Fin 8) (d : Fin 256) :
    k0_pay1 v3 (k0_pay2 v) (k0_pay3 v) (k0_pay4 v1 v) (k0_pay5 v1 v) (ix3 0 r d)
      = poolK (fun k => v1 (ix3 k 0 0)) (fun k => v3 (ix2 0 k)) (fun k w => v (ix4 0 k r w)) d := by
  pointwise [k0_pay1, k0_pay2, k0_pay3, k0_pay4, k0_pay5]
  rfl

/-- Where row `h` of batch entry `b` lies in the slot of its step. -/
theorem src_apply (b : Fin 4) (h : Fin 64) (d : Fin 256) (k : Fin 256) (w : Fin 2048) :
    srcIdx (stepOf (ix3 b h d)) ((slotR 0).emb (ix4 0 k ⟨h.val % 8, by omega⟩ w)) = ix4 b k h w := by
  funext a
  apply Fin.ext
  fin_cases a
  · show (8 * b.val + h.val / 8) / 8 = b.val; omega
  · show 0 + 1 * k.val = k.val; omega
  · show 8 * ((8 * b.val + h.val / 8) % 8) + (0 + 1 * (h.val % 8)) = h.val; omega
  · show 0 + 1 * w.val = w.val; omega

theorem inStep_apply (b : Fin 4) (h : Fin 64) (d : Fin 256) : inStep (ix3 b h d) = ix3 0 ⟨h.val % 8, by omega⟩ d := by
  funext a
  apply Fin.ext
  fin_cases a <;> rfl

/-- The kernel's result at an index. -/
theorem outFun_apply (v1 : FVec Ideal S256x1x1 .f32) (v3 : FVec Ideal S1x256 .f32) (X : FVec Ideal S4x256x64x2048 .f32)
    (b : Fin 4) (h : Fin 64) (d : Fin 256) :
    outFun (F := Ideal) v1 v3 X (ix3 b h d)
      = poolK (fun k => v1 (ix3 k 0 0)) (fun k => v3 (ix2 0 k)) (fun k w => X (ix4 b k h w)) d := by
  unfold outFun payK
  rw [inStep_apply, pay_apply]
  unfold slotV
  simp only [src_apply]

end Pool

namespace Ref

open Cert.ReferenceIdeal Cert.ReferenceIdeal.Gen Cert.ReferenceIdeal.Value

/-- The reference's result at an index. -/
theorem out_apply (m : (ℓ : Loc nD τ sig) → Buf (Elt Ideal) ℓ) (c : Dev nD) (X : FVec Ideal S4x256x64x2048 .f32) (nw sw : FVec Ideal S256 .f32)
    (hx : m ((c : Thread nD τ).loc main_arg0) = X) (hn : m ((c : Thread nD τ).loc main_arg1) = nw) (hs : m ((c : Thread nD τ).loc main_arg2) = sw)
    (b : Fin 4) (h : Fin 64) (d : Fin 256) :
    (res_main_v26 m c : FVec Ideal S4x64x256 .f32) (ix3 b h d)
      = poolR (fun k => nw (ix1 k)) (fun k => sw (ix1 k)) (fun k w => X (ix4 b k h w)) d := by
  unfold res_main_v26
  rw [hx, hn, hs]
  pointwise
  rfl

end Ref

end Cert.Proof

end
-- ==== Proof.Value.lean ====
/- The value claim: at finite weights the kernel's run and the reference's end with equal results. -/
module

public import proofs.«01_k».proof.Defs
public import proofs.«01_k».proof.Proof.Reads
public import proofs.«01_k».proof.Proof.Gen.Pre_finite_weights
public import Idealize.ShloMosaic.Lib.Pipeline.ValueKit
public import Idealize.ShloMosaic.Lib.VecWindow
public import Idealize.ShloMosaic.Lib.Claim

@[expose] public section

set_option maxRecDepth 16384

noncomputable section

namespace Cert.Proof

open Idealize.ShloMosaic Idealize.ShloMosaic.TcCoe Idealize.SL.Sem Cert.Proof.Numbers

/-! ## The weights, as the body finds them -/

namespace Pool

open Cert.KernelIdeal Cert.KernelIdeal.Gen

section
variable (m : (ℓ : Loc nD τ sig) → Buf (Elt Ideal) ℓ) (c : Dev nD) (nw sw : FVec Ideal S256 .f32)

/-- A body's load of a whole window reads what the window holds. -/
theorem w1Of_rep (a : Memref sig .tc .vmem S256x1x1 .f32) (g : FVec Ideal S256x1x1 .f32) : w1Of c a (a.view.rep g) = g := by
  unfold w1Of k0_pay6
  rw [View.readAt_rep_full]
  funext i
  pointwise
theorem w2Of_rep (a : Memref sig .tc .vmem S1x256 .f32) (g : FVec Ideal S1x256 .f32) : w2Of c a (a.view.rep g) = g := by
  unfold w2Of k0_pay7
  rw [View.readAt_rep_full]
  funext i
  pointwise

/-- The two windows' one block starts at the array's start. -/
theorem index0 : win0_0.index t0_0 = ![0, 0, 0] := by decide +kernel
theorem index1 : win0_1.index t0_0 = ![0, 0] := by decide +kernel

/-- The first window holds the product of the weights. -/
theorem w1At_apply (hn : m ((c : Thread nD τ).loc main_arg1) = nw) (hs : m ((c : Thread nD τ).loc main_arg2) = sw) (k : Fin 256) :
    w1At m c t0_0 (ix3 k 0 0) = nw (ix1 k) * sw (ix1 k) := by
  have hV : (V m c main_v1 : FVec Ideal S256x1x1 .f32) (ix3 k 0 0) = nw (ix1 k) * sw (ix1 k) := by
    entry_read
    rw [hn, hs]
    pointwise
  unfold w1At
  rw [w1Of_rep, ← hV]
  blk_ext [iblk, index0]

/-- The second window holds the norm weight. -/
theorem w2At_apply (hn : m ((c : Thread nD τ).loc main_arg1) = nw) (k : Fin 256) : w2At m c t0_0 (ix2 0 k) = nw (ix1 k) := by
  have hV : (V m c main_v2 : FVec Ideal S1x256 .f32) (ix2 0 k) = nw (ix1 k) := by
    entry_read
    rw [hn]
    pointwise
  unfold w2At
  rw [w2Of_rep, ← hV]
  blk_ext [iblk, index1]
end

end Pool

/-! ## The precondition -/

/-- Below infinity in absolute value is real. -/
theorem real_of_abs (a : EReal) (h : max a (-a) < ⊤) : ∃ r : ℝ, a = r := by
  induction a with
  | bot => simp at h
  | top => simp at h
  | coe r => exact ⟨r, rfl⟩

/-- The bits of infinity. -/
theorem bits_top : Ideal.ofBits .f32 0x7F800000#32 = (⊤ : EReal) := by
  simp [Ideal.ofBits, Ideal.ieee]

/-- The precondition says that both weight vectors are real. -/
theorem finite_of_pre (X : FVec Ideal Cert.Pre_finite_weights.S4x256x64x2048 .f32) (nw sw : FVec Ideal Cert.Pre_finite_weights.S256 .f32)
    (h : Cert.Pre_finite_weights.fn (F := Ideal) X nw sw = fun _ => 1#1) (k : Fin 256) :
    (∃ r : ℝ, nw (ix1 k) = r) ∧ (∃ r : ℝ, sw (ix1 k) = r) := by
  have e := congrFun h (ix1 k)
  pointwise [Cert.Pre_finite_weights.fn] at e
  have hab : ∀ p q : Bool, IntOp.andi (BitVec.ofBool p) (BitVec.ofBool q) = 1#1 → p = true ∧ q = true := by decide
  obtain ⟨e1, e2⟩ := hab _ _ e
  rw [decide_eq_true_eq, bits_top] at e1 e2
  exact ⟨real_of_abs _ e1, real_of_abs _ e2⟩

/-! ## The claim -/

/-- The two results agree at an index, of equal arguments with real weights. -/
theorem out_eq (m : (ℓ : Loc Cert.KernelIdeal.nD Cert.KernelIdeal.τ Cert.KernelIdeal.sig) → Buf (Elt Ideal) ℓ)
    (c : Dev Cert.KernelIdeal.nD) (X : FVec Ideal Cert.KernelIdeal.S4x256x64x2048 .f32) (nw sw : FVec Ideal Cert.KernelIdeal.S256 .f32)
    (hn : m ((c : Thread Cert.KernelIdeal.nD Cert.KernelIdeal.τ).loc Cert.KernelIdeal.main_arg1) = nw)
    (hs : m ((c : Thread Cert.KernelIdeal.nD Cert.KernelIdeal.τ).loc Cert.KernelIdeal.main_arg2) = sw)
    (hf : ∀ k, (∃ r : ℝ, nw (ix1 k) = r) ∧ (∃ r : ℝ, sw (ix1 k) = r)) (i0 : Fin 4) (i1 : Fin 64) (i2 : Fin 256) :
    Pool.outFun (Pool.w1At m c Cert.KernelIdeal.Gen.t0_0) (Pool.w2At m c Cert.KernelIdeal.Gen.t0_0) X (ix3 i0 i1 i2)
      = poolR (fun k => nw (ix1 k)) (fun k => sw (ix1 k)) (fun k w => X (ix4 i0 k i1 w)) i2 := by
  choose a ha using fun k => (hf k).1
  choose b hb using fun k => (hf k).2
  rw [Pool.outFun_apply]
  simp only [Pool.w1At_apply m c nw sw hn hs, Pool.w2At_apply m c nw hn, ha, hb]
  exact pool_eq a b _ i2

/-- The reference's result is the kernel's, from memories that agree on the arguments. -/
theorem res_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (X : FVec Ideal Cert.KernelIdeal.S4x256x64x2048 .f32) (nw sw : FVec Ideal Cert.KernelIdeal.S256 .f32)
    (hn : m ((c : Thread Cert.KernelIdeal.nD Cert.KernelIdeal.τ).loc Cert.KernelIdeal.main_arg1) = nw)
    (hs : m ((c : Thread Cert.KernelIdeal.nD Cert.KernelIdeal.τ).loc Cert.KernelIdeal.main_arg2) = sw)
    (h0 : m' ((c : Thread Cert.ReferenceIdeal.nD Cert.ReferenceIdeal.τ).loc Cert.ReferenceIdeal.main_arg0) = X)
    (h1 : m' ((c : Thread Cert.ReferenceIdeal.nD Cert.ReferenceIdeal.τ).loc Cert.ReferenceIdeal.main_arg1) = nw)
    (h2 : m' ((c : Thread Cert.ReferenceIdeal.nD Cert.ReferenceIdeal.τ).loc Cert.ReferenceIdeal.main_arg2) = sw)
    (hf : ∀ k, (∃ r : ℝ, nw (ix1 k) = r) ∧ (∃ r : ℝ, sw (ix1 k) = r)) :
    (Cert.ReferenceIdeal.Value.res_main_v26 m' c : FVec Ideal Cert.ReferenceIdeal.S4x64x256 .f32)
      = Pool.outFun (Pool.w1At m c Cert.KernelIdeal.Gen.t0_0) (Pool.w2At m c Cert.KernelIdeal.Gen.t0_0) X := by
  funext i
  rw [eq_ix3 i]
  exact (Ref.out_apply m' c X nw sw h0 h1 h2 _ _ _).trans (out_eq m c X nw sw hn hs hf _ _ _).symm

/-- `Cert.algebraic_KernelIdeal_ReferenceIdeal_pre_finite_weights`: the kernel's run and the reference's, joined by `res_eq`. -/
theorem algebraic : Cert.algebraic_KernelIdeal_ReferenceIdeal_pre_finite_weights := by
  intro m ρ m' ρ' hpre hagree
  refine ⟨fun c => Pool.outFun (Pool.w1At m c Cert.KernelIdeal.Gen.t0_0) (Pool.w2At m c Cert.KernelIdeal.Gen.t0_0)
      (m ((c : Thread Cert.KernelIdeal.nD Cert.KernelIdeal.τ).loc Cert.KernelIdeal.main_arg0)),
    (θ_run Cert.KernelIdeal.defs _ _).mono (fun _ h => h.1) (Pool.run (F := Ideal) m ρ),
    (θ_run Cert.ReferenceIdeal.defs _ _).mono (fun r h c => ⟨(h c).1.trans ?_, (h c).2⟩)
      (Cert.ReferenceIdeal.Value.run (F := Ideal) m' ρ')⟩
  exact res_eq m m' c _ _ _ rfl rfl (hagree c).1 (hagree c).2.1 (hagree c).2.2 (finite_of_pre _ _ _ (hpre c))

end Cert.Proof

end
-- ==== Proof.lean ====
module

public import proofs.«01_k».proof.Defs
public import proofs.«01_k».proof.Proof.Frames
public import proofs.«01_k».proof.Proof.Value
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_weights

@[expose] public section

noncomputable section

namespace Cert.Proof

open Idealize.ShloMosaic Idealize.SL.Sem

/-- The idealized kernel's frame where the weights are finite: the frame without that premise. -/
theorem frame_pi_pre : Cert.quiescent_KernelIdeal_pre_finite_weights := fun m ρ _ => frame_pi m ρ trivial

/-- The reference's, likewise. -/
theorem frame_ri_pre : Cert.quiescent_ReferenceIdeal_pre_finite_weights := fun m ρ _ => frame_ri m ρ trivial

theorem claim : Cert.Claim :=
  ⟨Cert.Kernel.Gen.facts, Cert.KernelIdeal.Gen.facts, Cert.ReferenceIdeal.Gen.facts, Cert.Pre_finite_weights.Gen.facts,
    frame_p, frame_pi, frame_pi_pre, frame_ri, frame_ri_pre, trivial, algebraic⟩

end Cert.Proof

end
